-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_meaningful [hPre_meaningful : Cert.Pre_meaningful.Facts] (m : (ℓ : Loc Cert.KernelIdeal.nD Cert.KernelIdeal.τ Cert.KernelIdeal.sig) → Buf (Elt Ideal) ℓ) : Prop :=
  ∀ c : Dev Cert.KernelIdeal.nD,
    (Cert.Pre_meaningful.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_meaningful [hPre_meaningful : Cert.Pre_meaningful.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_meaningful.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_meaningful [hKernelIdeal : Cert.KernelIdeal.Facts] [hPre_meaningful : Cert.Pre_meaningful.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_meaningful m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_meaningful [hReferenceIdeal : Cert.ReferenceIdeal.Facts] [hPre_meaningful : Cert.Pre_meaningful.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_meaningful m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  IdealRules.named_const.Statement Cert.KernelIdeal.κ "inv_d" .f32 0x39AAAAAB#32 ((1 / 3072 : ℝ) : EReal)

def algebraic_KernelIdeal_ReferenceIdeal_pre_meaningful [hKernelIdeal : Cert.KernelIdeal.Facts] [hReferenceIdeal : Cert.ReferenceIdeal.Facts] [hPre_meaningful : Cert.Pre_meaningful.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_meaningful m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v6_0)) (v1 : (c : Dev Cert.KernelIdeal.nD) → Buf (Elt Ideal) ((c.tc : Thread Cert.KernelIdeal.nD Cert.KernelIdeal.τ).loc Cert.KernelIdeal.main_v6_1)) (v2 : (c : Dev Cert.KernelIdeal.nD) → Buf (Elt Ideal) ((c.tc : Thread Cert.KernelIdeal.nD Cert.KernelIdeal.τ).loc Cert.KernelIdeal.main_v6_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6_0) = v0 c
          ∧ r.2.mem ((c.tc : Thread Cert.KernelIdeal.nD Cert.KernelIdeal.τ).loc Cert.KernelIdeal.main_v6_1) = v1 c
          ∧ r.2.mem ((c.tc : Thread Cert.KernelIdeal.nD Cert.KernelIdeal.τ).loc Cert.KernelIdeal.main_v6_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6_0) = v0 c
          ∧ r.2.mem ((c.tc : Thread Cert.ReferenceIdeal.nD Cert.ReferenceIdeal.τ).loc Cert.ReferenceIdeal.main_v6_1) = v1 c
          ∧ r.2.mem ((c.tc : Thread Cert.ReferenceIdeal.nD Cert.ReferenceIdeal.τ).loc Cert.ReferenceIdeal.main_v6_2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_meaningful : Cert.Pre_meaningful.Facts),
    quiescent_Kernel (hKernel := hKernel)
    ∧ quiescent_KernelIdeal (hKernelIdeal := hKernelIdeal)
    ∧ quiescent_KernelIdeal_pre_meaningful (hKernelIdeal := hKernelIdeal) (hPre_meaningful := hPre_meaningful)
    ∧ quiescent_ReferenceIdeal (hReferenceIdeal := hReferenceIdeal)
    ∧ quiescent_ReferenceIdeal_pre_meaningful (hReferenceIdeal := hReferenceIdeal) (hPre_meaningful := hPre_meaningful)
    ∧ preserves_Kernel_KernelIdeal
    ∧ algebraic_KernelIdeal_ReferenceIdeal_pre_meaningful (hKernelIdeal := hKernelIdeal) (hReferenceIdeal := hReferenceIdeal) (hPre_meaningful := hPre_meaningful)
-- ==== Pre_meaningful.lean ====
abbrev S2048x3072 : Shape := ⟨2, ![2048, 3072]⟩
abbrev S2048 : Shape := ⟨1, ![2048]⟩
abbrev S2x3072 : Shape := ⟨2, ![2, 3072]⟩
abbrev S_ : Shape := ⟨0, ![]⟩

class Facts : Prop where
  natLt_8_32 : 8 < 32
  bcast_S_S2048x3072 : S_.BroadcastsInDim S2048x3072 (![] : Fin 0 → Fin S2048x3072.rank)
  reducesTo_S2048x3072_S_d0_1 : S2048x3072.ReducesTo [0, 1] S_
  h_S_ : 0 < S_.numel
  bcast_S_S2048 : S_.BroadcastsInDim S2048 (![] : Fin 0 → Fin S2048.rank)
  reducesTo_S2048_S_d0 : S2048.ReducesTo [0] S_
  bcast_S_S2x3072 : S_.BroadcastsInDim S2x3072 (![] : Fin 0 → Fin S2x3072.rank)
  reducesTo_S2x3072_S_d0_1 : S2x3072.ReducesTo [0, 1] S_

variable [Facts]

def fn_part2 {F : FTy → Type} [FloatOps F] (main_v27 : IVec S_ 1) (main_v32 : IVec S2048 1) (main_c_12 : IVec S_ 1) : IVec S_ 1 :=
  let main_v33 : IVec S_ 1 := (fun x v => Host.reduce IntOp.andi x v reducesTo_S2048_S_d0 h_S_) main_v32 main_c_12
  let main_v34 : IVec S_ 1 := andi main_v27 main_v33
  main_v34

def fn_part1 {F : FTy → Type} [FloatOps F] (main_arg6 : FVec F S2048 .f32) (main_arg7 : IVec S2048 32) (main_arg8 : FVec F S2x3072 .f32) (main_v5 : IVec S_ 1) (main_v11 : IVec S_ 1) (main_v15 : IVec S_ 1) : IVec S_ 1 :=
  let main_v16 : FVec F S2048 .f32 := Host.absf main_arg6
  let main_cst_6 : FVec F S_ .f32 := constant S_ .f32 0x7F800000#32
  let main_v17 : FVec F S2048 .f32 := broadcastInDim S2048 ![] bcast_S_S2048 main_cst_6
  let main_v18 : IVec S2048 1 := cmpf .olt main_v16 main_v17
  let main_c_7 : IVec S_ 1 := constantI S_ 1 1#1
  let main_v19 : IVec S_ 1 := (fun x v => Host.reduce IntOp.andi x v reducesTo_S2048_S_d0 h_S_) main_v18 main_c_7
  let main_v20 : IVec S_ 1 := andi main_v15 main_v19
  let main_v21 : FVec F S2x3072 .f32 := Host.absf main_arg8
  let main_cst_8 : FVec F S_ .f32 := constant S_ .f32 0x7F800000#32
  let main_v22 : FVec F S2x3072 .f32 := broadcastInDim S2x3072 ![] bcast_S_S2x3072 main_cst_8
  let main_v23 : IVec S2x3072 1 := cmpf .olt main_v21 main_v22
  let main_c_9 : IVec S_ 1 := constantI S_ 1 1#1
  let main_v24 : IVec S_ 1 := (fun x v => Host.reduce IntOp.andi x v reducesTo_S2x3072_S_d0_1 h_S_) main_v23 main_c_9
  let main_v25 : IVec S_ 1 := andi main_v20 main_v24
  let main_v26 : IVec S_ 1 := andi main_v5 main_v11
  let main_v27 : IVec S_ 1 := andi main_v26 main_v25
  let main_c_10 : IVec S_ 32 := constantI S_ 32 0#32
  let main_v28 : IVec S2048 32 := broadcastInDim S2048 ![] bcast_S_S2048 main_c_10
  let main_v29 : IVec S2048 1 := cmpi .eq main_arg7 main_v28
  let main_c_11 : IVec S_ 32 := constantI S_ 32 1#32
  let main_v30 : IVec S2048 32 := broadcastInDim S2048 ![] bcast_S_S2048 main_c_11
  let main_v31 : IVec S2048 1 := cmpi .eq main_arg7 main_v30
  let main_v32 : IVec S2048 1 := ori main_v29 main_v31
  let main_c_12 : IVec S_ 1 := constantI S_ 1 1#1
  fn_part2 (F := F) main_v27 main_v32 main_c_12

def fn {F : FTy → Type} [FloatOps F] (main_arg0 : IVec S2048x3072 8) (main_arg1 : FVec F S2048 .f32) (main_arg2 : FVec F S2048x3072 .bf16) (main_arg3 : FVec F S2048x3072 .fp8e5m2) (main_arg4 : FVec F S2048 .f32) (main_arg5 : IVec S2048x3072 8) (main_arg6 : FVec F S2048 .f32) (main_arg7 : IVec S2048 32) (main_arg8 : FVec F S2x3072 .f32) : IVec S_ 1 :=
  let main_v0 : IVec S2048x3072 32 := (extui 32 · natLt_8_32) main_arg0
  let main_c : IVec S_ 32 := constantI S_ 32 127#32
  let main_v1 : IVec S2048x3072 32 := broadcastInDim S2048x3072 ![] bcast_S_S2048x3072 main_c
  let main_v2 : IVec S2048x3072 32 := andi main_v0 main_v1
  let main_c_0 : IVec S_ 32 := constantI S_ 32 127#32
  let main_v3 : IVec S2048x3072 32 := broadcastInDim S2048x3072 ![] bcast_S_S2048x3072 main_c_0
  let main_v4 : IVec S2048x3072 1 := cmpi .ne main_v2 main_v3
  let main_c_1 : IVec S_ 1 := constantI S_ 1 1#1
  let main_v5 : IVec S_ 1 := (fun x v => Host.reduce IntOp.andi x v reducesTo_S2048x3072_S_d0_1 h_S_) main_v4 main_c_1
  let main_v6 : IVec S2048x3072 32 := (extui 32 · natLt_8_32) main_arg5
  let main_c_2 : IVec S_ 32 := constantI S_ 32 127#32
  let main_v7 : IVec S2048x3072 32 := broadcastInDim S2048x3072 ![] bcast_S_S2048x3072 main_c_2
  let main_v8 : IVec S2048x3072 32 := andi main_v6 main_v7
  let main_c_3 : IVec S_ 32 := constantI S_ 32 124#32
  let main_v9 : IVec S2048x3072 32 := broadcastInDim S2048x3072 ![] bcast_S_S2048x3072 main_c_3
  let main_v10 : IVec S2048x3072 1 := cmpi .slt main_v8 main_v9
  let main_c_4 : IVec S_ 1 := constantI S_ 1 1#1
  let main_v11 : IVec S_ 1 := (fun x v => Host.reduce IntOp.andi x v reducesTo_S2048x3072_S_d0_1 h_S_) main_v10 main_c_4
  let main_v12 : FVec F S2048 .f32 := Host.absf main_arg1
  let main_cst : FVec F S_ .f32 := constant S_ .f32 0x7F800000#32
  let main_v13 : FVec F S2048 .f32 := broadcastInDim S2048 ![] bcast_S_S2048 main_cst
  let main_v14 : IVec S2048 1 := cmpf .olt main_v12 main_v13
  let main_c_5 : IVec S_ 1 := constantI S_ 1 1#1
  let main_v15 : IVec S_ 1 := (fun x v => Host.reduce IntOp.andi x v reducesTo_S2048_S_d0 h_S_) main_v14 main_c_5
  fn_part1 (F := F) main_arg6 main_arg7 main_arg8 main_v5 main_v11 main_v15
-- ==== Kernel.lean ====
abbrev S2048x3072 : Shape := ⟨2, ![2048, 3072]⟩
abbrev S2048 : Shape := ⟨1, ![2048]⟩
abbrev S2x3072 : Shape := ⟨2, ![2, 3072]⟩
abbrev S16x128 : Shape := ⟨2, ![16, 128]⟩
abbrev S2x3x3072 : Shape := ⟨3, ![2, 3, 3072]⟩
abbrev S16x3x3072 : Shape := ⟨3, ![16, 3, 3072]⟩
abbrev S128x3072 : Shape := ⟨2, ![128, 3072]⟩
abbrev S1x3x3072 : Shape := ⟨3, ![1, 3, 3072]⟩
abbrev S16x3072 : Shape := ⟨2, ![16, 3072]⟩
abbrev S8x3072 : Shape := ⟨2, ![8, 3072]⟩
abbrev S1x3072 : Shape := ⟨2, ![1, 3072]⟩
abbrev S9x3072 : Shape := ⟨2, ![9, 3072]⟩
abbrev S1x128 : Shape := ⟨2, ![1, 128]⟩
abbrev S128x128 : Shape := ⟨2, ![128, 128]⟩
abbrev S128 : Shape := ⟨1, ![128]⟩
abbrev S24x128 : Shape := ⟨2, ![24, 128]⟩
abbrev S24x256 : Shape := ⟨2, ![24, 256]⟩
abbrev S128x256 : Shape := ⟨2, ![128, 256]⟩
abbrev S256x256 : Shape := ⟨2, ![256, 256]⟩
abbrev S8x256 : Shape := ⟨2, ![8, 256]⟩
abbrev S1x256 : Shape := ⟨2, ![1, 256]⟩
abbrev S1x1x256 : Shape := ⟨3, ![1, 1, 256]⟩
abbrev S1x1x128 : Shape := ⟨3, ![1, 1, 128]⟩
abbrev S1x1x3072 : Shape := ⟨3, ![1, 1, 3072]⟩

abbrev nBuf : Space → Nat
  | .hbm => 18
  | .vmem => 20
  | .smem => 0
  | _ => 0

abbrev bufTy : (tb : Table) → Fin (tcTables nBuf tb) → BufTy
  | .hbm, ⟨0, _⟩ => ⟨S2048x3072, .i8⟩
  | .hbm, ⟨1, _⟩ => ⟨S2048, .f32⟩
  | .hbm, ⟨2, _⟩ => ⟨S2048x3072, .bf16⟩
  | .hbm, ⟨3, _⟩ => ⟨S2048x3072, .fp8e5m2⟩
  | .hbm, ⟨4, _⟩ => ⟨S2048, .f32⟩
  | .hbm, ⟨5, _⟩ => ⟨S2048x3072, .i8⟩
  | .hbm, ⟨6, _⟩ => ⟨S2048, .f32⟩
  | .hbm, ⟨7, _⟩ => ⟨S2048, .i32⟩
  | .hbm, ⟨8, _⟩ => ⟨S2x3072, .f32⟩
  | .hbm, ⟨9, _⟩ => ⟨S2048x3072, .fp8e4m3⟩
  | .hbm, ⟨10, _⟩ => ⟨S2048x3072, .fp8e5m2⟩
  | .hbm, ⟨11, _⟩ => ⟨S16x128, .f32⟩
  | .hbm, ⟨12, _⟩ => ⟨S16x128, .f32⟩
  | .hbm, ⟨13, _⟩ => ⟨S16x128, .f32⟩
  | .hbm, ⟨14, _⟩ => ⟨S16x128, .i32⟩
  | .hbm, ⟨15, _⟩ => ⟨S2048x3072, .bf16⟩
  | .hbm, ⟨16, _⟩ => ⟨S2x3x3072, .f32⟩
  | .hbm, ⟨17, _⟩ => ⟨S16x3x3072, .f32⟩
  | .local _ .vmem, ⟨0, _⟩ => ⟨S16x128, .f32⟩
  | .local _ .vmem, ⟨1, _⟩ => ⟨S16x128, .f32⟩
  | .local _ .vmem, ⟨2, _⟩ => ⟨S16x128, .f32⟩
  | .local _ .vmem, ⟨3, _⟩ => ⟨S16x128, .i32⟩
  | .local _ .vmem, ⟨4, _⟩ => ⟨S2x3072, .f32⟩
  | .local _ .vmem, ⟨5, _⟩ => ⟨S128x3072, .fp8e4m3⟩
  | .local _ .vmem, ⟨6, _⟩ => ⟨S128x3072, .fp8e4m3⟩
  | .local _ .vmem, ⟨7, _⟩ => ⟨S128x3072, .bf16⟩
  | .local _ .vmem, ⟨8, _⟩ => ⟨S128x3072, .bf16⟩
  | .local _ .vmem, ⟨9, _⟩ => ⟨S128x3072, .fp8e5m2⟩
  | .local _ .vmem, ⟨10, _⟩ => ⟨S128x3072, .fp8e5m2⟩
  | .local _ .vmem, ⟨11, _⟩ => ⟨S128x3072, .fp8e5m2⟩
  | .local _ .vmem, ⟨12, _⟩ => ⟨S128x3072, .fp8e5m2⟩
  | .local _ .vmem, ⟨13, _⟩ => ⟨S128x3072, .bf16⟩
  | .local _ .vmem, ⟨14, _⟩ => ⟨S128x3072, .bf16⟩
  | .local _ .vmem, ⟨15, _⟩ => ⟨S2x3x3072, .f32⟩
  | .local _ .vmem, ⟨16, _⟩ => ⟨S1x3x3072, .f32⟩
  | .local _ .vmem, ⟨17, _⟩ => ⟨S1x3x3072, .f32⟩
  | .local _ .vmem, ⟨18, _⟩ => ⟨S16x3072, .bf16⟩
  | .local _ .vmem, ⟨19, _⟩ => ⟨S8x3072, .f32⟩
  | _, _ => ⟨S2048x3072, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6_0 : Ref sig .tc := ⟨.hbm, 15, rfl⟩
abbrev main_v6_1 : Ref sig .tc := ⟨.hbm, 16, rfl⟩
abbrev main_v6_2 : Ref sig .tc := ⟨.hbm, 17, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg5_1 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg11_1 : Ref sig .tc := ⟨.vmem, 17, rfl⟩
abbrev cc0_scratch0 : Ref sig .tc := ⟨.vmem, 18, rfl⟩
abbrev cc0_scratch1 : Ref sig .tc := ⟨.vmem, 19, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem5_1 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem11_0 : DmaSem sig := 16
abbrev cc0_sem11_1 : DmaSem sig := 17

abbrev nD : Nat := 1
abbrev τ : Topo := Topo.v7x

variable {F : FTy → Type} [FloatOps F]

abbrev grid0 : Pipeline.Grid := ⟨1, ![16], ![false]⟩

def k0_off1 (i : grid0.Coords) : Fin 2 → Nat :=
  let arg0 : BitVec 32 := BitVec.ofNat 32 (i 0).val
  let v3 : Index := Scalar.indexCast arg0
  let c0 : Index := 0#32
  ![v3.toNat, 0]
def k0_cond2 (i : grid0.Coords) : BitVec 1 :=
  let arg0 : BitVec 32 := BitVec.ofNat 32 (i 0).val
  let c15_i32 : BitVec 32 := 15#32
  let v1717 : BitVec 1 := Scalar.cmpi .eq arg0 c15_i32
  let v1718 : BitVec 32 := Scalar.extui v1717
  let c0_i32_891 : BitVec 32 := 0#32
  let v1719 : BitVec 1 := Scalar.cmpi .ne v1718 c0_i32_891
  v1719

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S16x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S16x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S16x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S16x128 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2x3072 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S128x3072 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x3072 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x3072 .fp8e5m2 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x3072 .fp8e5m2 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S128x3072 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S2x3x3072 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S1x3x3072 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== KernelIdeal.lean ====
variable {F : FTy → Type} [FloatOps F] [Named F]
def κ : String → Option EReal := fun
  | "inv_d" => some ((1 / 3072 : ℝ) : EReal)
  | _ => none
-- ==== ReferenceIdeal.lean ====
abbrev S2048x3072 : Shape := ⟨2, ![2048, 3072]⟩
abbrev S2048 : Shape := ⟨1, ![2048]⟩
abbrev S2x3072 : Shape := ⟨2, ![2, 3072]⟩
abbrev S2048x1 : Shape := ⟨2, ![2048, 1]⟩
abbrev S2x3x3072 : Shape := ⟨3, ![2, 3, 3072]⟩
abbrev S16x3x3072 : Shape := ⟨3, ![16, 3, 3072]⟩
abbrev S3072 : Shape := ⟨1, ![3072]⟩
abbrev S1x3072 : Shape := ⟨2, ![1, 3072]⟩
abbrev S1x1x3072 : Shape := ⟨3, ![1, 1, 3072]⟩
abbrev S16x128x3072 : Shape := ⟨3, ![16, 128, 3072]⟩
abbrev S16x3072 : Shape := ⟨2, ![16, 3072]⟩
abbrev S16x1x3072 : Shape := ⟨3, ![16, 1, 3072]⟩

abbrev nBuf : Space → Nat
  | .hbm => 18
  | .vmem => 12
  | .smem => 0
  | _ => 0

abbrev bufTy : (tb : Table) → Fin (tcTables nBuf tb) → BufTy
  | .hbm, ⟨0, _⟩ => ⟨S2048x3072, .i8⟩
  | .hbm, ⟨1, _⟩ => ⟨S2048, .f32⟩
  | .hbm, ⟨2, _⟩ => ⟨S2048x3072, .bf16⟩
  | .hbm, ⟨3, _⟩ => ⟨S2048x3072, .fp8e5m2⟩
  | .hbm, ⟨4, _⟩ => ⟨S2048, .f32⟩
  | .hbm, ⟨5, _⟩ => ⟨S2048x3072, .i8⟩
  | .hbm, ⟨6, _⟩ => ⟨S2048, .f32⟩
  | .hbm, ⟨7, _⟩ => ⟨S2048, .i32⟩
  | .hbm, ⟨8, _⟩ => ⟨S2x3072, .f32⟩
  | .hbm, ⟨9, _⟩ => ⟨S2048x3072, .fp8e4m3⟩
  | .hbm, ⟨10, _⟩ => ⟨S2048x3072, .fp8e5m2⟩
  | .hbm, ⟨11, _⟩ => ⟨S2048x1, .f32⟩
  | .hbm, ⟨12, _⟩ => ⟨S2048x1, .f32⟩
  | .hbm, ⟨13, _⟩ => ⟨S2048x1, .f32⟩
  | .hbm, ⟨14, _⟩ => ⟨S2048x1, .i32⟩
  | .hbm, ⟨15, _⟩ => ⟨S2048x3072, .bf16⟩
  | .hbm, ⟨16, _⟩ => ⟨S2x3x3072, .f32⟩
  | .hbm, ⟨17, _⟩ => ⟨S16x3x3072, .f32⟩
  | .local _ .vmem, ⟨0, _⟩ => ⟨S2048x3072, .fp8e4m3⟩
  | .local _ .vmem, ⟨1, _⟩ => ⟨S2048x1, .f32⟩
  | .local _ .vmem, ⟨2, _⟩ => ⟨S2048x3072, .bf16⟩
  | .local _ .vmem, ⟨3, _⟩ => ⟨S2048x3072, .fp8e5m2⟩
  | .local _ .vmem, ⟨4, _⟩ => ⟨S2048x1, .f32⟩
  | .local _ .vmem, ⟨5, _⟩ => ⟨S2048x3072, .fp8e5m2⟩
  | .local _ .vmem, ⟨6, _⟩ => ⟨S2048x1, .f32⟩
  | .local _ .vmem, ⟨7, _⟩ => ⟨S2048x1, .i32⟩
  | .local _ .vmem, ⟨8, _⟩ => ⟨S2x3072, .f32⟩
  | .local _ .vmem, ⟨9, _⟩ => ⟨S2048x3072, .bf16⟩
  | .local _ .vmem, ⟨10, _⟩ => ⟨S2x3x3072, .f32⟩
  | .local _ .vmem, ⟨11, _⟩ => ⟨S16x3x3072, .f32⟩
  | _, _ => ⟨S2048x3072, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6_0 : Ref sig .tc := ⟨.hbm, 15, rfl⟩
abbrev main_v6_1 : Ref sig .tc := ⟨.hbm, 16, rfl⟩
abbrev main_v6_2 : Ref sig .tc := ⟨.hbm, 17, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11

abbrev nD : Nat := 1
abbrev τ : Topo := Topo.v7x

variable {F : FTy → Type} [FloatOps F]

abbrev grid0 : Pipeline.Grid := .none

abbrev stage0_0 : Fin 1 → Memref sig .tc .vmem S2048x3072 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2048x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2048x3072 .fp8e5m2 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2048x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2048x3072 .fp8e5m2 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2048x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S2048x1 .i32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S2x3072 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S2048x3072 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S2x3x3072 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S16x3x3072 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
-- ==== Proof.Consts.lean ====
/- The constants the two programs spell and the fp8 codes they are given, as the extended reals they denote. This is the
   only module that unfolds a bit pattern. -/
module

public import Idealize.ShloMosaic.PureOps.Ideal

@[expose] public section

noncomputable section

namespace Cert.Consts

open Idealize.ShloMosaic

/-- The `1e-6` of the layer norm, as the real its pattern denotes. -/
def eps : ℝ := 8796093 * 2 ^ (-43 : ℤ)

/-- The `1e-6` of the layer norm is above zero. -/
theorem eps_pos : 0 < eps := by unfold eps; positivity

/-- The pattern of `1e-6` denotes `eps`. -/
theorem ofBits_eps : Ideal.ofBits .f32 0x358637BD#32 = ((eps : ℝ) : EReal) := by
  simp [Ideal.ofBits, Ideal.ieee, eps, -EReal.coe_mul]

/-- `3072.0`, by which the reference divides, denotes the real `3072`. -/
theorem ofBits_3072 : Ideal.ofBits .f32 0x45400000#32 = ((3072 : ℝ) : EReal) := by
  simp [Ideal.ofBits, Ideal.ieee, -EReal.coe_mul]; norm_num

/-- `0.5`, with which the kernel compares its row mask, denotes the real `1 / 2`. -/
theorem ofBits_half : Ideal.ofBits .f32 0x3F000000#32 = ((1 / 2 : ℝ) : EReal) := by
  simp [Ideal.ofBits, Ideal.ieee, -EReal.coe_mul]; norm_num

/-- `+∞`, with which the precondition compares, denotes `⊤`. -/
theorem ofBits_inf : Ideal.ofBits .f32 0x7F800000#32 = (⊤ : EReal) := by
  simp [Ideal.ofBits, Ideal.ieee]

/-- The one code of `float8_e4m3fn` that is no number has its seven low bits set. -/
theorem e4m3_nan : ∀ b : BitVec 8, (b.extractLsb' 3 4).toNat = 15 ∧ (b.extractLsb' 0 3).toNat = 7 → b &&& 0x7F#8 = 0x7F#8 := by
  decide

/-- A `float8_e4m3fn` code whose seven low bits are not all set denotes a real. -/
theorem e4m3_real (b : BitVec 8) (h : b &&& 0x7F#8 ≠ 0x7F#8) : ∃ r : ℝ, Ideal.ofBits .fp8e4m3 b = (r : EReal) := by
  show ∃ r : ℝ, Ideal.e4m3fn b = (r : EReal)
  simp only [Ideal.e4m3fn]
  split
  · next h' => exact absurd (e4m3_nan b h') h
  · split
    · exact ⟨_, rfl⟩
    · exact ⟨_, rfl⟩

/-- The codes of `float8_e5m2` with the exponent all ones lie from `0x7C` on, the sign left out. -/
theorem e5m2_top : ∀ b : BitVec 8, (b.extractLsb' 2 5).toNat = 31 → 0x7C ≤ (b &&& 0x7F#8).toNat := by
  decide

/-- A `float8_e5m2` code below `0x7C`, the sign left out, denotes a real. -/
theorem e5m2_real (b : BitVec 8) (h : (b &&& 0x7F#8).toNat < 0x7C) : ∃ r : ℝ, Ideal.ofBits .fp8e5m2 b = (r : EReal) := by
  show ∃ r : ℝ, Ideal.ieee 5 2 b = (r : EReal)
  simp only [Ideal.ieee]
  split
  · next h' => exact absurd (e5m2_top b h') (by omega)
  · split
    · exact ⟨_, rfl⟩
    · exact ⟨_, rfl⟩

end Cert.Consts

end
-- ==== Proof.Inputs.lean ====
/- The real numbers the two programs' arguments stand for, and that every argument the precondition admits stands for some. -/
module

public import proofs.«01_k».proof.Pre_meaningful
public import proofs.«01_k».proof.Proof.Consts
public import Idealize.ShloMosaic.Lib.Pointwise
public import Idealize.ShloMosaic.Lib.ReduceAll
public import Idealize.ShloMosaic.Lib.Affine

@[expose] public section

set_option maxRecDepth 16384

noncomputable section

namespace Cert.Inputs

open Idealize.ShloMosaic
open Cert.Pre_meaningful

/-- The real numbers of a whole problem: the codes of `x` and of `dh`, their rows' scales, the rows' sample ids and the
    modulation. -/
structure Data where
  /-- the codes of `x` -/
  x : Fin 2048 → Fin 3072 → ℝ
  /-- the codes of `dh` -/
  h : Fin 2048 → Fin 3072 → ℝ
  /-- the scales of `x` -/
  sx : Fin 2048 → ℝ
  /-- the scales of `dh` -/
  sh : Fin 2048 → ℝ
  /-- the sample ids -/
  id : Fin 2048 → BitVec 32
  /-- the modulation -/
  ms : Fin 2 → Fin 3072 → ℝ

/-- The arguments stand for the numbers, and every sample id is 0 or 1. -/
structure Stands (D : Data) (a0 : IVec S2048x3072 8) (a1 : FVec Ideal S2048 .f32) (a5 : IVec S2048x3072 8)
    (a6 : FVec Ideal S2048 .f32) (a7 : IVec S2048 32) (a8 : FVec Ideal S2x3072 .f32) : Prop where
  hx : ∀ n j, Ideal.ofBits .fp8e4m3 (a0 (ix2 n j)) = ((D.x n j : ℝ) : EReal)
  hsx : ∀ n, a1 (ix1 n) = ((D.sx n : ℝ) : EReal)
  hh : ∀ n j, Ideal.ofBits .fp8e5m2 (a5 (ix2 n j)) = ((D.h n j : ℝ) : EReal)
  hsh : ∀ n, a6 (ix1 n) = ((D.sh n : ℝ) : EReal)
  hid : ∀ n, a7 (ix1 n) = D.id n
  hms : ∀ s j, a8 (ix2 s j) = ((D.ms s j : ℝ) : EReal)
  two : ∀ n, D.id n = 0#32 ∨ D.id n = 1#32

/-- A value whose magnitude is below infinity is a real. -/
theorem real_of_abs (a : EReal) (h : Ideal.cmp .olt (max a (-a)) (⊤ : EReal) = 1#1) : ∃ r : ℝ, a = (r : EReal) := by
  have h' : max a (-a) < ⊤ := by
    by_contra hn
    simp [Ideal.cmp, hn] at h
  induction a with
  | bot => simp at h'
  | coe r => exact ⟨r, rfl⟩
  | top => simp at h'

/-- The low seven bits of a byte, widened. -/
theorem low7 : ∀ b : BitVec 8, (BitVec.setWidth 32 b &&& 127#32) = BitVec.setWidth 32 (b &&& 0x7F#8) := by decide

/-- The low seven bits of a byte, from the same bits of the byte widened. -/
theorem ne_low7 : ∀ b : BitVec 8, (BitVec.setWidth 32 b &&& 127#32) ≠ 127#32 → b &&& 0x7F#8 ≠ 0x7F#8 := by decide

/-- The same for their order. -/
theorem lt_low7 : ∀ b : BitVec 8, (BitVec.setWidth 32 b &&& 127#32).toInt < (124#32).toInt → (b &&& 0x7F#8).toNat < 0x7C := by
  decide

/-- Arguments the precondition admits stand for real numbers. -/
theorem exists_data [Facts] (a0 : IVec S2048x3072 8) (a1 : FVec Ideal S2048 .f32) (a2 : FVec Ideal S2048x3072 .bf16)
    (a3 : FVec Ideal S2048x3072 .fp8e5m2) (a4 : FVec Ideal S2048 .f32) (a5 : IVec S2048x3072 8)
    (a6 : FVec Ideal S2048 .f32) (a7 : IVec S2048 32) (a8 : FVec Ideal S2x3072 .f32)
    (h : fn (F := Ideal) a0 a1 a2 a3 a4 a5 a6 a7 a8 = fun _ => 1#1) : ∃ D, Stands D a0 a1 a5 a6 a7 a8 := by
  have e := congrFun h ix0
  dsimp only [fn, fn_part1, fn_part2, andi] at e
  simp only [IntOp.andi_eq_one] at e
  obtain ⟨⟨⟨e5, e11⟩, ⟨e15, e19⟩, e24⟩, e33⟩ := e
  haveI : Subsingleton S_.Idx := ⟨fun a b => funext fun i => i.elim0⟩
  have x0 := fun i => Host.reduce_andi_all _ _ _ _ _ e5 i
  have x5 := fun i => Host.reduce_andi_all _ _ _ _ _ e11 i
  have x1 := fun i => Host.reduce_andi_all _ _ _ _ _ e15 i
  have x6 := fun i => Host.reduce_andi_all _ _ _ _ _ e19 i
  have x8 := fun i => Host.reduce_andi_all _ _ _ _ _ e24 i
  have x7 := fun i => Host.reduce_andi_all _ _ _ _ _ e33 i
  have r0 : ∀ n j, ∃ r : ℝ, Ideal.ofBits .fp8e4m3 (a0 (ix2 n j)) = (r : EReal) := fun n j =>
    Consts.e4m3_real _ (ne_low7 _ (IntOp.cmpi_ne.1 (x0 (ix2 n j))))
  have r5 : ∀ n j, ∃ r : ℝ, Ideal.ofBits .fp8e5m2 (a5 (ix2 n j)) = (r : EReal) := fun n j =>
    Consts.e5m2_real _ (lt_low7 _ (IntOp.cmpi_slt.1 (x5 (ix2 n j))))
  have r1 : ∀ n, ∃ r : ℝ, a1 (ix1 n) = (r : EReal) := fun n =>
    real_of_abs _ (by rw [← Consts.ofBits_inf]; exact x1 (ix1 n))
  have r6 : ∀ n, ∃ r : ℝ, a6 (ix1 n) = (r : EReal) := fun n =>
    real_of_abs _ (by rw [← Consts.ofBits_inf]; exact x6 (ix1 n))
  have r8 : ∀ s j, ∃ r : ℝ, a8 (ix2 s j) = (r : EReal) := fun s j =>
    real_of_abs _ (by rw [← Consts.ofBits_inf]; exact x8 (ix2 s j))
  choose x hx using r0
  choose h hh using r5
  choose sx hsx using r1
  choose sh hsh using r6
  choose ms hms using r8
  refine ⟨⟨x, h, sx, sh, fun n => a7 (ix1 n), ms⟩, hx, hsx, hh, hsh, fun _ => rfl, hms, fun n => ?_⟩
  rcases IntOp.ori_eq_one.1 (x7 (ix1 n)) with h | h
  · exact .inl (IntOp.cmpi_eq.1 h)
  · exact .inr (IntOp.cmpi_eq.1 h)

end Cert.Inputs

end
-- ==== Proof.RowMath.lean ====
/- One row of the layer norm and of its gradient, in real arithmetic: what the kernel computes from sums over the codes,
   and what the reference computes from the scaled row, are the same numbers. -/
module

public import Mathlib.Analysis.SpecialFunctions.Pow.Real
public import Mathlib.Data.EReal.Operations

@[expose] public section

noncomputable section

namespace Cert.RowMath

/-- A finite sum of reals, as an extended real. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

section Row

variable (e : ℝ) (x h w : Fin 3072 → ℝ) (sx sh : ℝ)

/-- The mean of the codes of a row. -/
def mean : ℝ := (∑ j, x j) * (1 / 3072)

/-- The codes' sum of squares less the sum times the mean: 3072 times their variance. -/
def spread : ℝ := (∑ j, x j * x j) - (∑ j, x j) * mean x

/-- The reciprocal standard deviation of the scaled row. -/
def rstd : ℝ := (Real.sqrt (sx * sx * (spread x * (1 / 3072)) + e))⁻¹

/-- The row's scale over its standard deviation. -/
def ratio : ℝ := sx * rstd e x sx

/-- The mean of the gradient at the normalized row, as the kernel has it. -/
def gMean : ℝ := sh * (∑ j, w j * h j) * (1 / 3072)

/-- The mean of the gradient times the normalized row, as the kernel has it. -/
def gxMean : ℝ := sh * ratio e x sx * ((∑ j, w j * (x j * h j)) - mean x * ∑ j, w j * h j) * (1 / 3072)

/-- The gradient through the layer norm, as the kernel has it. -/
def grad (j : Fin 3072) : ℝ :=
  h j * w j * (rstd e x sx * sh) - x j * (rstd e x sx * ratio e x sx * gxMean e x h w sx sh)
    + rstd e x sx * (ratio e x sx * mean x * gxMean e x h w sx sh - gMean h w sh)

/-- The centred scaled row of the reference. -/
def centred (j : Fin 3072) : ℝ := x j * sx - (∑ k, x k * sx) * (1 / 3072)

/-- The reference's reciprocal standard deviation. -/
def rstdRef : ℝ := (Real.sqrt ((∑ j, centred x sx j * centred x sx j) * (1 / 3072) + e))⁻¹

/-- The reference's normalized row. -/
def xhat (j : Fin 3072) : ℝ := centred x sx j * rstdRef e x sx

/-- The reference's gradient at the normalized row. -/
def gRef (j : Fin 3072) : ℝ := h j * sh * w j

/-- The reference's gradient through the layer norm. -/
def gradRef (j : Fin 3072) : ℝ :=
  rstdRef e x sx * (gRef h w sh j - (∑ k, gRef h w sh k) * (1 / 3072)
    - xhat e x sx j * ((∑ k, gRef h w sh k * xhat e x sx k) * (1 / 3072)))

/-- The centred row from the codes. -/
theorem centred_eq (j : Fin 3072) : centred x sx j = (x j - mean x) * sx := by
  unfold centred mean; rw [← Finset.sum_mul]; ring

/-- The sum of the squares about the mean is the spread. -/
theorem sum_sq : ∑ j, (x j - mean x) * (x j - mean x) = spread x := by
  have h1 : ∀ j, (x j - mean x) * (x j - mean x) = x j * x j - 2 * mean x * x j + mean x * mean x := fun j => by ring
  simp only [h1, Finset.sum_add_distrib, Finset.sum_sub_distrib, ← Finset.mul_sum, Finset.sum_const, Finset.card_univ,
    Fintype.card_fin, nsmul_eq_mul, spread]
  have h2 : ∑ j, x j = 3072 * mean x := by unfold mean; ring
  rw [h2]; push_cast; ring

/-- The spread is no less than zero. -/
theorem spread_nonneg : 0 ≤ spread x := by
  rw [← sum_sq]; exact Finset.sum_nonneg fun j _ => mul_self_nonneg _

/-- What the kernel takes the reciprocal root of is above zero. -/
theorem radicand_pos (he : 0 < e) : 0 < sx * sx * (spread x * (1 / 3072)) + e := by
  have := spread_nonneg x
  have := mul_self_nonneg sx
  positivity

/-- The reference's radicand is the kernel's. -/
theorem radicand_eq : (∑ j, centred x sx j * centred x sx j) * (1 / 3072) + e = sx * sx * (spread x * (1 / 3072)) + e := by
  have h1 : ∀ j, centred x sx j * centred x sx j = sx * sx * ((x j - mean x) * (x j - mean x)) := fun j => by
    rw [centred_eq]; ring
  simp only [h1, ← Finset.mul_sum, sum_sq]; ring

/-- The reciprocal standard deviations are one. -/
theorem rstdRef_eq : rstdRef e x sx = rstd e x sx := by unfold rstdRef rstd; rw [radicand_eq]

/-- The normalized row from the codes. -/
theorem xhat_eq (j : Fin 3072) : xhat e x sx j = (x j - mean x) * ratio e x sx := by
  unfold xhat ratio; rw [centred_eq, rstdRef_eq]; ring

/-- The gradient times the normalized row, as the kernel's two products sum to it. -/
theorem prod_eq (j : Fin 3072) : h j * sh * xhat e x sx j
    = (0 - sh * ratio e x sx) * mean x * h j + sh * ratio e x sx * (x j * h j) := by
  rw [xhat_eq]; ring

/-- The means of the gradient are one. -/
theorem gMean_eq : (∑ k, gRef h w sh k) * (1 / 3072) = gMean h w sh := by
  unfold gRef gMean
  rw [Finset.mul_sum]; congr 1; exact Finset.sum_congr rfl fun j _ => by ring

/-- The means of the gradient times the normalized row are one. -/
theorem gxMean_eq : (∑ k, gRef h w sh k * xhat e x sx k) * (1 / 3072) = gxMean e x h w sx sh := by
  unfold gRef gxMean
  rw [Finset.mul_sum, ← Finset.sum_sub_distrib, Finset.mul_sum]; congr 1
  exact Finset.sum_congr rfl fun j _ => by rw [xhat_eq]; ring

/-- The two gradients through the layer norm are the same. -/
theorem grad_eq (j : Fin 3072) : gradRef e x h w sx sh j = grad e x h w sx sh j := by
  unfold gradRef grad
  rw [gMean_eq, gxMean_eq, xhat_eq, rstdRef_eq]; unfold gRef; ring

end Row

end Cert.RowMath

end
-- ==== Proof.Ref.lean ====
/- What the reference's vectors hold when the codes, the scales and the modulation are real numbers. -/
module

public import proofs.«01_k».proof.Proof.Gen.ReferenceIdeal.Frame
public import proofs.«01_k».proof.Proof.Inputs
public import proofs.«01_k».proof.Proof.RowMath
public import Idealize.ShloMosaic.Lib.Pipeline.ReadBack
public import Idealize.ShloMosaic.Lib.Pointwise

@[expose] public section

set_option maxRecDepth 16384

noncomputable section

namespace Cert.Ref

open Idealize.ShloMosaic Idealize.ShloMosaic.TcCoe
open Cert.ReferenceIdeal Cert.ReferenceIdeal.Gen Cert.RowMath Cert.Inputs

/-- One plus the modulation of the sample of row `n`. -/
def wOf (D : Data) (n : Fin 2048) (j : Fin 3072) : ℝ := if D.id n = 0#32 then 1 + D.ms 0 j else 1 + D.ms 1 j

/-- The gradient of `x`. -/
def dxOf (D : Data) (Y : Fin 2048 → Fin 3072 → EReal) (SY : Fin 2048 → EReal) (n : Fin 2048) (j : Fin 3072) : EReal :=
  Y n j * SY n + ((gradRef Consts.eps (D.x n) (D.h n) (wOf D n) (D.sx n) (D.sh n) j : ℝ) : EReal)

/-- The three products that are summed: `dh`, `dh` times the normalized row, and `dy` times `f`. -/
def prodOf (D : Data) (Y : Fin 2048 → Fin 3072 → EReal) (SY : Fin 2048 → EReal) (Fo : Fin 2048 → Fin 3072 → EReal)
    (k : Fin 3) (n : Fin 2048) (j : Fin 3072) : EReal :=
  if k.val = 0 then ((D.h n j * D.sh n : ℝ) : EReal)
  else if k.val = 1 then ((D.h n j * D.sh n * xhat Consts.eps (D.x n) (D.sx n) j : ℝ) : EReal)
  else Y n j * SY n * Fo n j

/-- Row `r` of block `t`. -/
def row (t : Fin 16) (r : Fin 128) : Fin 2048 := ⟨t.val * 128 + r.val, by omega⟩

/-- A product summed over the rows of sample `s`. -/
def dmodOf (D : Data) (Y : Fin 2048 → Fin 3072 → EReal) (SY : Fin 2048 → EReal) (Fo : Fin 2048 → Fin 3072 → EReal)
    (s : Fin 2) (k : Fin 3) (j : Fin 3072) : EReal :=
  ∑ n, if D.id n = BitVec.ofNat 32 s.val then prodOf D Y SY Fo k n j else 0

/-- A product summed over the rows of block `t`. -/
def dblkOf (D : Data) (Y : Fin 2048 → Fin 3072 → EReal) (SY : Fin 2048 → EReal) (Fo : Fin 2048 → Fin 3072 → EReal)
    (t : Fin 16) (k : Fin 3) (j : Fin 3072) : EReal :=
  ∑ r, prodOf D Y SY Fo k (row t r) j

/-- The gradient of `x` as an array. -/
def dxRes (D : Data) (Y : Fin 2048 → Fin 3072 → EReal) (SY : Fin 2048 → EReal) : Vec Ideal S2048x3072 .bf16 :=
  fun y => dxOf D Y SY (y 0) (y 1)

/-- Two samples' sums as an array. -/
def dmodRes (G : Fin 2 → Fin 3 → Fin 3072 → EReal) : Vec Ideal S2x3x3072 .f32 := fun y => G (y 0) (y 1) (y 2)

/-- Sixteen blocks' sums as an array. -/
def dblkRes (G : Fin 16 → Fin 3 → Fin 3072 → EReal) : Vec Ideal S16x3x3072 .f32 := fun y => G (y 0) (y 1) (y 2)

/-- The arrays the reference's body reads hold the numbers. -/
structure Reads (D : Data) (Y : Fin 2048 → Fin 3072 → EReal) (SY : Fin 2048 → EReal) (Fo : Fin 2048 → Fin 3072 → EReal)
    (x0 : Vec Ideal S2048x3072 .fp8e4m3) (x1 : Vec Ideal S2048x1 .f32) (x2 : Vec Ideal S2048x3072 .bf16)
    (x3 : Vec Ideal S2048x3072 .fp8e5m2) (x4 : Vec Ideal S2048x1 .f32) (x5 : Vec Ideal S2048x3072 .fp8e5m2)
    (x6 : Vec Ideal S2048x1 .f32) (x7 : Vec Ideal S2048x1 .i32) (x8 : Vec Ideal S2x3072 .f32) : Prop where
  h0 : ∀ n j, x0 (ix2 n j) = ((D.x n j : ℝ) : EReal)
  h1 : ∀ n, x1 (ix2 n 0) = ((D.sx n : ℝ) : EReal)
  h2 : ∀ n j, x2 (ix2 n j) = Fo n j
  h3 : ∀ n j, x3 (ix2 n j) = Y n j
  h4 : ∀ n, x4 (ix2 n 0) = SY n
  h5 : ∀ n j, x5 (ix2 n j) = ((D.h n j : ℝ) : EReal)
  h6 : ∀ n, x6 (ix2 n 0) = ((D.sh n : ℝ) : EReal)
  h7 : ∀ n, x7 (ix2 n 0) = D.id n
  h8 : ∀ s j, x8 (ix2 s j) = ((D.ms s j : ℝ) : EReal)
  two : ∀ n, D.id n = 0#32 ∨ D.id n = 1#32

/-- A choice on the equality of two words. -/
theorem select_eq {α : Type} (a b : BitVec 32) (x y : α) :
    Scalar.select (IntOp.cmpi .eq a b) x y = if a = b then x else y := by
  by_cases h : a = b
  · subst h; simp [IntOp.cmpi, Scalar.select]
  · have h' : (a == b) = false := by simpa using h
    simp [IntOp.cmpi, Scalar.select, h, h']

/-- A real over 3072. -/
theorem div_3072 (r : ℝ) : Ideal.div (r : EReal) ((3072 : ℝ) : EReal) = ((r * (1 / 3072) : ℝ) : EReal) := by
  rw [Ideal.div_coe (by norm_num), ← EReal.coe_mul]

/-- The reciprocal root of a real above zero. -/
theorem rsqrt_pos {r : ℝ} (h : 0 < r) : Ideal.rsqrt (r : EReal) = (((Real.sqrt r)⁻¹ : ℝ) : EReal) := by
  rw [Ideal.rsqrt_coe, if_neg (not_lt.mpr h.le), if_neg h.ne']

/-- The whole of an array of 2048 by 3072. -/
theorem ld_whole {e : EltTy} (v : Vec Ideal S2048x3072 e) : View.ld (Val := Elt Ideal) v r0_0 = v :=
  View.ld_unit_zero (by decide) _ _

/-- The whole of an array of 2048 by 1. -/
theorem ld_col {e : EltTy} (v : Vec Ideal S2048x1 e) : View.ld (Val := Elt Ideal) v r0_1 = v :=
  View.ld_unit_zero (by decide) _ _

/-- A row of the second result, as one store holds it. -/
theorem piece10 (G : Fin 2 → Fin 3 → Fin 3072 → EReal) (P : Vec Ideal S1x1x3072 .f32) (s : Fin 2) (k : Fin 3)
    (inb : ∀ i, (![s.val, k.val, 0] : Fin 3 → ℕ) i + S1x1x3072.size i ≤ S2x3x3072.size i) (h : ∀ j, P (ix3 0 0 j) = G s k j)
    (x : (Rect.unit (s := S2x3x3072) ![s.val, k.val, 0] S1x1x3072.size inb).shape.Idx) :
    P x = dmodRes G ((Rect.unit (s := S2x3x3072) ![s.val, k.val, 0] S1x1x3072.size inb).emb x) := by
  obtain ⟨q, rfl⟩ : ∃ (q : Fin 3072), x = ix3 0 0 q :=
    ⟨x 2, by funext a; fin_cases a; exacts [Subsingleton.elim (α := Fin 1) _ _, Subsingleton.elim (α := Fin 1) _ _, rfl]⟩
  have e0 : ((Rect.unit (s := S2x3x3072) ![s.val, k.val, 0] S1x1x3072.size inb).emb (ix3 0 0 q)) 0 = s := by
    apply Fin.ext; show s.val + 1 * 0 = s.val; omega
  have e1 : ((Rect.unit (s := S2x3x3072) ![s.val, k.val, 0] S1x1x3072.size inb).emb (ix3 0 0 q)) 1 = k := by
    apply Fin.ext; show k.val + 1 * 0 = k.val; omega
  have e2 : ((Rect.unit (s := S2x3x3072) ![s.val, k.val, 0] S1x1x3072.size inb).emb (ix3 0 0 q)) 2 = q := by
    apply Fin.ext; show 0 + 1 * q.val = q.val; omega
  show _ = G _ _ _
  rw [e0, e1, e2]; exact h q

/-- A product's rows of the third result, as one store holds them. -/
theorem piece11 (G : Fin 16 → Fin 3 → Fin 3072 → EReal) (P : Vec Ideal S16x1x3072 .f32) (k : Fin 3)
    (inb : ∀ i, (![0, k.val, 0] : Fin 3 → ℕ) i + S16x1x3072.size i ≤ S16x3x3072.size i) (h : ∀ t j, P (ix3 t 0 j) = G t k j)
    (x : (Rect.unit (s := S16x3x3072) ![0, k.val, 0] S16x1x3072.size inb).shape.Idx) :
    P x = dblkRes G ((Rect.unit (s := S16x3x3072) ![0, k.val, 0] S16x1x3072.size inb).emb x) := by
  obtain ⟨t, q, rfl⟩ : ∃ (t : Fin 16) (q : Fin 3072), x = ix3 t 0 q :=
    ⟨x 0, x 2, by funext a; fin_cases a; exacts [rfl, Subsingleton.elim (α := Fin 1) _ _, rfl]⟩
  have e0 : ((Rect.unit (s := S16x3x3072) ![0, k.val, 0] S16x1x3072.size inb).emb (ix3 t 0 q)) 0 = t := by
    apply Fin.ext; show 0 + 1 * t.val = t.val; omega
  have e1 : ((Rect.unit (s := S16x3x3072) ![0, k.val, 0] S16x1x3072.size inb).emb (ix3 t 0 q)) 1 = k := by
    apply Fin.ext; show k.val + 1 * 0 = k.val; omega
  have e2 : ((Rect.unit (s := S16x3x3072) ![0, k.val, 0] S16x1x3072.size inb).emb (ix3 t 0 q)) 2 = q := by
    apply Fin.ext; show 0 + 1 * q.val = q.val; omega
  show _ = G _ _ _
  rw [e0, e1, e2]; exact h t q

section Rows

variable {D : Data} {Y : Fin 2048 → Fin 3072 → EReal} {SY : Fin 2048 → EReal} {Fo : Fin 2048 → Fin 3072 → EReal}
  {x0 : Vec Ideal S2048x3072 .fp8e4m3} {x1 : Vec Ideal S2048x1 .f32} {x2 : Vec Ideal S2048x3072 .bf16}
  {x3 : Vec Ideal S2048x3072 .fp8e5m2} {x4 : Vec Ideal S2048x1 .f32} {x5 : Vec Ideal S2048x3072 .fp8e5m2}
  {x6 : Vec Ideal S2048x1 .f32} {x7 : Vec Ideal S2048x1 .i32} {x8 : Vec Ideal S2x3072 .f32}
  (H : Reads D Y SY Fo x0 x1 x2 x3 x4 x5 x6 x7 x8)
include H

/-- dy with its scales. -/
theorem pay2_apply (n : Fin 2048) (j : Fin 3072) : k0_pay2 x3 x4 (ix2 n j) = Y n j * SY n := by
  pointwise [k0_pay2]
  rw [H.h3, H.h4]

/-- dh with its scales. -/
theorem pay3_apply (n : Fin 2048) (j : Fin 3072) : k0_pay3 x5 x6 (ix2 n j) = ((D.h n j * D.sh n : ℝ) : EReal) := by
  pointwise [k0_pay3]
  rw [H.h5, H.h6, EReal.coe_mul]

/-- The sample numbers. -/
theorem pay4_apply (n : Fin 2048) : k0_pay4 (F := Ideal) x7 (ix2 n 0) = D.id n := by
  pointwise [k0_pay4]
  rw [H.h7]

/-- The centred rows. -/
theorem pay5_apply (n : Fin 2048) (j : Fin 3072) : k0_pay5 x0 x1 (ix2 n j) = ((centred (D.x n) (D.sx n) j : ℝ) : EReal) := by
  pointwise [k0_pay5]
  simp only [H.h0, H.h1, ← EReal.coe_mul, ← coe_sum, Consts.ofBits_3072, div_3072, ← EReal.coe_sub]
  rfl

/-- The reciprocal standard deviations. -/
theorem pay6_apply (n : Fin 2048) : k0_pay6 x0 x1 (ix2 n 0) = ((rstdRef Consts.eps (D.x n) (D.sx n) : ℝ) : EReal) := by
  pointwise [k0_pay6]
  simp only [pay5_apply H, ← EReal.coe_mul, ← coe_sum, Consts.ofBits_3072, Consts.ofBits_eps, div_3072, ← EReal.coe_add]
  refine rsqrt_pos ?_
  rw [radicand_eq]; exact radicand_pos _ _ _ Consts.eps_pos

/-- The normalized rows. -/
theorem pay7_apply (n : Fin 2048) (j : Fin 3072) : k0_pay7 x0 x1 (ix2 n j) = ((xhat Consts.eps (D.x n) (D.sx n) j : ℝ) : EReal) := by
  pointwise [k0_pay7]
  rw [pay5_apply H, pay6_apply H, ← EReal.coe_mul]; rfl

/-- dh times the normalized row. -/
theorem pay8_apply (n : Fin 2048) (j : Fin 3072) :
    k0_pay8 x0 x1 x5 x6 (ix2 n j) = ((D.h n j * D.sh n * xhat Consts.eps (D.x n) (D.sx n) j : ℝ) : EReal) := by
  pointwise [k0_pay8]
  rw [pay3_apply H, pay7_apply H, ← EReal.coe_mul]

/-- dy times f. -/
theorem pay9_apply (n : Fin 2048) (j : Fin 3072) : k0_pay9 (k0_pay2 x3 x4) x2 (ix2 n j) = Y n j * SY n * Fo n j := by
  pointwise [k0_pay9]
  rw [pay2_apply H, H.h2]

/-- The modulation as two choices, one of which is of zero. -/
theorem mod_eq (n : Fin 2048) (j : Fin 3072) :
    (1 : EReal) + ((if D.id n = 0#32 then ((D.ms 0 j : ℝ) : EReal) else 0) + (if D.id n = 1#32 then ((D.ms 1 j : ℝ) : EReal) else 0))
      = ((wOf D n j : ℝ) : EReal) := by
  unfold wOf
  rcases H.two n with h | h <;> rw [h] <;> simp

/-- The gradient at the normalized row. -/
theorem pay21_apply (v122 v131 : Vec Ideal S1x3072 .f32) (hv : ∀ j, v122 (ix2 0 j) = ((D.ms 0 j : ℝ) : EReal))
    (hv' : ∀ j, v131 (ix2 0 j) = ((D.ms 1 j : ℝ) : EReal)) (n : Fin 2048) (j : Fin 3072) :
    k0_pay21 (k0_pay3 x5 x6) (k0_pay4 x7) v122 v131 (ix2 n j) = ((gRef (D.h n) (wOf D n) (D.sh n) j : ℝ) : EReal) := by
  pointwise [k0_pay21]
  rw [pay3_apply H, pay4_apply H, hv, hv', select_eq, select_eq, mod_eq H, ← EReal.coe_mul]; rfl

/-- Its mean over a row. -/
theorem pay22_apply (v122 v131 : Vec Ideal S1x3072 .f32) (hv : ∀ j, v122 (ix2 0 j) = ((D.ms 0 j : ℝ) : EReal))
    (hv' : ∀ j, v131 (ix2 0 j) = ((D.ms 1 j : ℝ) : EReal)) (n : Fin 2048) :
    k0_pay22 (k0_pay3 x5 x6) (k0_pay4 x7) v122 v131 (ix2 n 0)
      = (((∑ j, gRef (D.h n) (wOf D n) (D.sh n) j) * (1 / 3072) : ℝ) : EReal) := by
  pointwise [k0_pay22]
  simp only [pay21_apply H v122 v131 hv hv', ← coe_sum, Consts.ofBits_3072, div_3072]

/-- The sum over a row of its product with the normalized row. -/
theorem pay23_apply (v122 v131 : Vec Ideal S1x3072 .f32) (hv : ∀ j, v122 (ix2 0 j) = ((D.ms 0 j : ℝ) : EReal))
    (hv' : ∀ j, v131 (ix2 0 j) = ((D.ms 1 j : ℝ) : EReal)) (n : Fin 2048) :
    k0_pay23 (k0_pay3 x5 x6) (k0_pay4 x7) (k0_pay7 x0 x1) v122 v131 (ix2 n 0)
      = ((∑ j, gRef (D.h n) (wOf D n) (D.sh n) j * xhat Consts.eps (D.x n) (D.sx n) j : ℝ) : EReal) := by
  pointwise [k0_pay23]
  simp only [pay21_apply H v122 v131 hv hv', pay7_apply H, ← EReal.coe_mul, ← coe_sum]

/-- The gradient of x. -/
theorem pay1_apply (v122 v131 : Vec Ideal S1x3072 .f32) (hv : ∀ j, v122 (ix2 0 j) = ((D.ms 0 j : ℝ) : EReal))
    (hv' : ∀ j, v131 (ix2 0 j) = ((D.ms 1 j : ℝ) : EReal)) (n : Fin 2048) (j : Fin 3072) :
    k0_pay1 (k0_pay2 x3 x4) (k0_pay6 x0 x1) (k0_pay7 x0 x1) (k0_pay21 (k0_pay3 x5 x6) (k0_pay4 x7) v122 v131)
      (k0_pay22 (k0_pay3 x5 x6) (k0_pay4 x7) v122 v131) (k0_pay23 (k0_pay3 x5 x6) (k0_pay4 x7) (k0_pay7 x0 x1) v122 v131)
      (Scalar.ofBits .f32 0x45400000#32) (ix2 n j) = dxOf D Y SY n j := by
  pointwise [k0_pay1]
  rw [pay2_apply H, pay6_apply H, pay7_apply H, pay21_apply H v122 v131 hv hv', pay22_apply H v122 v131 hv hv',
    pay23_apply H v122 v131 hv hv', Consts.ofBits_3072, div_3072]
  simp only [← EReal.coe_mul, ← EReal.coe_sub]
  rfl

/-! The rows of the second and third results, as the reference sums them. -/

/-- Row (0, 0) of result 2. -/
theorem pay10_apply (j : Fin 3072) : k0_pay10 (k0_pay3 x5 x6) (k0_pay4 x7) (ix3 0 0 j) = dmodOf D Y SY Fo 0 0 j := by
  pointwise [k0_pay10]
  simp only [pay3_apply H, pay4_apply H, select_eq]
  unfold dmodOf prodOf
  simp

/-- Row (1, 0) of result 2. -/
theorem pay11_apply (j : Fin 3072) : k0_pay11 (k0_pay3 x5 x6) (k0_pay4 x7) (ix3 0 0 j) = dmodOf D Y SY Fo 1 0 j := by
  pointwise [k0_pay11]
  simp only [pay3_apply H, pay4_apply H, select_eq]
  unfold dmodOf prodOf
  simp

/-- Row (0, 1) of result 2. -/
theorem pay14_apply (j : Fin 3072) : k0_pay14 (k0_pay13 (k0_pay4 x7) (k0_pay8 x0 x1 x5 x6)) (ix3 0 0 j) = dmodOf D Y SY Fo 0 1 j := by
  pointwise [k0_pay14, k0_pay13]
  simp only [pay8_apply H, pay4_apply H, select_eq]
  unfold dmodOf prodOf
  simp

/-- Row (1, 1) of result 2. -/
theorem pay15_apply (j : Fin 3072) : k0_pay15 (k0_pay4 x7) (k0_pay8 x0 x1 x5 x6) (ix3 0 0 j) = dmodOf D Y SY Fo 1 1 j := by
  pointwise [k0_pay15]
  simp only [pay8_apply H, pay4_apply H, select_eq]
  unfold dmodOf prodOf
  simp

/-- Row (0, 2) of result 2. -/
theorem pay17_apply (j : Fin 3072) : k0_pay17 (k0_pay4 x7) (k0_pay9 (k0_pay2 x3 x4) x2) (ix3 0 0 j) = dmodOf D Y SY Fo 0 2 j := by
  pointwise [k0_pay17]
  simp only [pay9_apply H, pay4_apply H, select_eq]
  unfold dmodOf prodOf
  simp

/-- Row (1, 2) of result 2. -/
theorem pay19_apply (j : Fin 3072) : k0_pay19 (k0_pay18 (k0_pay4 x7) (k0_pay9 (k0_pay2 x3 x4) x2)) (ix3 0 0 j) = dmodOf D Y SY Fo 1 2 j := by
  pointwise [k0_pay19, k0_pay18]
  simp only [pay9_apply H, pay4_apply H, select_eq]
  unfold dmodOf prodOf
  simp

/-- Row 0 of each block of result 3. -/
theorem pay12_apply (t : Fin 16) (j : Fin 3072) : k0_pay12 (k0_pay3 x5 x6) (ix3 t 0 j) = dblkOf D Y SY Fo t 0 j := by
  pointwise [k0_pay12]
  simp only [pay3_apply H]
  unfold dblkOf prodOf
  rfl

/-- Row 1 of each block of result 3. -/
theorem pay16_apply (t : Fin 16) (j : Fin 3072) : k0_pay16 (k0_pay8 x0 x1 x5 x6) (ix3 t 0 j) = dblkOf D Y SY Fo t 1 j := by
  pointwise [k0_pay16]
  simp only [pay8_apply H]
  unfold dblkOf prodOf
  rfl

/-- Row 2 of each block of result 3. -/
theorem pay20_apply (t : Fin 16) (j : Fin 3072) : k0_pay20 (k0_pay9 (k0_pay2 x3 x4) x2) (ix3 t 0 j) = dblkOf D Y SY Fo t 2 j := by
  pointwise [k0_pay20]
  simp only [pay9_apply H]
  unfold dblkOf prodOf
  rfl

/-- Row `s` of the modulation, as the body loads it. -/
theorem ld8 (s : Fin 2) (inb : ∀ i, (![s.val, 0] : Fin 2 → ℕ) i + S1x3072.size i ≤ S2x3072.size i) (j : Fin 3072) :
    View.ld (Val := Elt Ideal) x8 (Rect.unit (s := S2x3072) ![s.val, 0] S1x3072.size inb) (ix2 0 j) = ((D.ms s j : ℝ) : EReal) := by
  rw [← H.h8]
  exact congrArg x8 (by funext a; fin_cases a <;> exact Fin.ext (by simp [Rect.unit, Rect.emb, ix2]))

/-- What the reference leaves in the first result. -/
theorem out9 : out0_9 (F := Ideal) x0 x1 x2 x3 x4 x5 x6 x7 x8 = dxRes D Y SY := by
  funext y
  unfold_out out0_9
  rw [ld_whole, ld_whole, ld_whole, ld_col, ld_col, ld_col, ld_col]
  refine View.canon_apply_of_pieces (Val := Elt Ideal) (e := .bf16) (S := S2048x3072)
    (dxRes D Y SY) _ (View.PiecesOf.mem (G := dxRes D Y SY) (L := [_]) ⟨fun y => ?_, trivial⟩) y
    (View.cover_of_tiledL (s := S2048x3072) _ S2048x3072.size (by sl_kernel_rfl) _)
  obtain ⟨n, j, rfl⟩ : ∃ (n : Fin 2048) (j : Fin 3072), y = ix2 n j := ⟨y 0, y 1, by funext a; fin_cases a <;> rfl⟩
  refine (pay1_apply H _ _ (ld8 H 0 _) (ld8 H 1 _) n j).trans ?_
  have e0 : ((r0_0).emb (ix2 n j)) 0 = n := by apply Fin.ext; show 0 + 1 * n.val = n.val; omega
  have e1 : ((r0_0).emb (ix2 n j)) 1 = j := by apply Fin.ext; show 0 + 1 * j.val = j.val; omega
  show _ = dxOf D Y SY _ _
  rw [e0, e1]

/-- What the reference leaves in the second result. -/
theorem out10 : out0_10 (F := Ideal) x0 x1 x2 x3 x4 x5 x6 x7 x8 = dmodRes (dmodOf D Y SY Fo) := by
  funext y
  unfold_out out0_10
  rw [ld_whole, ld_whole, ld_whole, ld_whole, ld_col, ld_col, ld_col, ld_col]
  refine View.canon_apply_of_pieces (Val := Elt Ideal) (e := .f32) (S := S2x3x3072)
    (dmodRes (dmodOf D Y SY Fo)) _ (View.PiecesOf.mem ?_) y
    (View.cover_of_tiledL (s := S2x3x3072) _ S1x1x3072.size (by sl_kernel_rfl) _)
  exact ⟨piece10 (dmodOf D Y SY Fo) _ 1 2 (by decide) (pay19_apply H), piece10 (dmodOf D Y SY Fo) _ 0 2 (by decide) (pay17_apply H),
    piece10 (dmodOf D Y SY Fo) _ 1 1 (by decide) (pay15_apply H), piece10 (dmodOf D Y SY Fo) _ 0 1 (by decide) (pay14_apply H),
    piece10 (dmodOf D Y SY Fo) _ 1 0 (by decide) (pay11_apply H), piece10 (dmodOf D Y SY Fo) _ 0 0 (by decide) (pay10_apply H), trivial⟩

/-- What the reference leaves in the third result. -/
theorem out11 : out0_11 (F := Ideal) x0 x1 x2 x3 x4 x5 x6 x7 x8 = dblkRes (dblkOf D Y SY Fo) := by
  funext y
  unfold_out out0_11
  rw [ld_whole, ld_whole, ld_whole, ld_whole, ld_col, ld_col, ld_col]
  refine View.canon_apply_of_pieces (Val := Elt Ideal) (e := .f32) (S := S16x3x3072)
    (dblkRes (dblkOf D Y SY Fo)) _ (View.PiecesOf.mem ?_) y
    (View.cover_of_tiledL (s := S16x3x3072) _ S16x1x3072.size (by sl_kernel_rfl) _)
  exact ⟨piece11 (dblkOf D Y SY Fo) _ 2 (by decide) (pay20_apply H), piece11 (dblkOf D Y SY Fo) _ 1 (by decide) (pay16_apply H),
    piece11 (dblkOf D Y SY Fo) _ 0 (by decide) (pay12_apply H), trivial⟩

end Rows

end Cert.Ref

end
-- ==== Proof.Rows.lean ====
/- What the kernel's vectors hold when the codes, the scales and the modulation are real numbers. -/
module

public import proofs.«01_k».proof.Proof.Gen.KernelIdeal.Skeleton
public import proofs.«01_k».proof.Proof.Consts
public import proofs.«01_k».proof.Proof.RowMath
public import Idealize.ShloMosaic.Lib.Pointwise

@[expose] public section

set_option maxRecDepth 16384

noncomputable section

namespace Cert.Rows

open Idealize.ShloMosaic Idealize.ShloMosaic.TcCoe
open Cert.KernelIdeal Cert.KernelIdeal.Gen Cert.RowMath

/-- The kernel's left operand of the row sums: the two modulations plus one, a row of ones, and zeros. -/
def lhsRow (ms : Fin 2 → Fin 3072 → ℝ) (k : Fin 16) (j : Fin 3072) : ℝ :=
  if k.val = 0 then 1 + ms 0 j else if k.val = 1 then 1 + ms 1 j else if k.val = 6 then 1 else 0

/-- The constant named `inv_d` is 1/3072. -/
theorem inv_d : Named.named (F := Ideal) (φ := .f32) κ "inv_d" 0x39AAAAAB#32 = ((1 / 3072 : ℝ) : EReal) :=
  IdealRules.named_const.ideal_named_scalar _ _ _ _ rfl

/-- A choice on the equality of two words. -/
theorem select_eq {α : Type} (a b : BitVec 32) (x y : α) :
    Scalar.select (IntOp.cmpi .eq a b) x y = if a = b then x else y := by
  by_cases h : a = b
  · subst h; simp [IntOp.cmpi, Scalar.select]
  · have h' : (a == b) = false := by simpa using h
    simp [IntOp.cmpi, Scalar.select, h, h']

/-- The words of two row numbers are equal when the row numbers are. -/
theorem ofNat_eq_iff (a b : Fin 128) : BitVec.ofNat 32 a.val = BitVec.ofNat 32 b.val ↔ a = b := by
  constructor
  · intro h
    have := congrArg BitVec.toNat h
    simp only [BitVec.toNat_ofNat] at this
    apply Fin.ext; omega
  · rintro rfl; rfl

/-- The reciprocal root of a real above zero. -/
theorem rsqrt_pos {r : ℝ} (h : 0 < r) : Ideal.rsqrt (r : EReal) = (((Real.sqrt r)⁻¹ : ℝ) : EReal) := by
  rw [Ideal.rsqrt_coe, if_neg (not_lt.mpr h.le), if_neg h.ne']

/-- The rows of the left operand for the first sample. -/
theorem lhs_rows (ms : Fin 2 → Fin 3072 → ℝ) (f : Fin 3072 → ℝ) :
    (∑ j, lhsRow ms 0 j * f j) + (∑ j, lhsRow ms 2 j * f j) + (∑ j, lhsRow ms 4 j * f j) = ∑ j, (1 + ms 0 j) * f j := by
  simp [lhsRow]

/-- The rows of the left operand for the second sample. -/
theorem lhs_rows' (ms : Fin 2 → Fin 3072 → ℝ) (f : Fin 3072 → ℝ) :
    (∑ j, lhsRow ms 1 j * f j) + (∑ j, lhsRow ms 3 j * f j) + (∑ j, lhsRow ms 5 j * f j) = ∑ j, (1 + ms 1 j) * f j := by
  simp [lhsRow]

/-- A real less itself. -/
theorem sub_self_coe (r : ℝ) : (r : EReal) - (r : EReal) = 0 := by
  rw [← EReal.coe_sub, sub_self, EReal.coe_zero]

/-- One and a real added up. -/
theorem one_add_coe (r : ℝ) : (1 : EReal) + (r : EReal) = ((1 + r : ℝ) : EReal) := by
  rw [EReal.coe_add, EReal.coe_one]

/-- The left operand of the row sums, from the modulation. -/
theorem pay7_apply (ms : Fin 2 → Fin 3072 → ℝ) (v : Vec Ideal S2x3072 .f32) (hv : ∀ s j, v (ix2 s j) = ((ms s j : ℝ) : EReal))
    (k : Fin 16) (j : Fin 3072) : k0_pay7 v (ix2 k j) = ((lhsRow ms k j : ℝ) : EReal) := by
  pointwise [k0_pay7]
  fin_vals k with hk
  all_goals simp only [hk, Nat.reduceSub, Nat.reduceLT, ↓reduceDIte, hv, one_add_coe, sub_self_coe, sub_zero, lhsRow,
    Nat.reduceEqDiff, ↓reduceIte, EReal.coe_zero, EReal.coe_one, OfNat.ofNat_ne_zero, OfNat.ofNat_ne_one, one_ne_zero]
  all_goals rfl

/-- The real numbers a block of 128 rows is made of. -/
structure Blk where
  /-- The codes of x. -/
  x : Fin 128 → Fin 3072 → ℝ
  /-- The codes of dh. -/
  h : Fin 128 → Fin 3072 → ℝ
  /-- The scales of x. -/
  sx : Fin 128 → ℝ
  /-- The scales of dh. -/
  sh : Fin 128 → ℝ
  /-- The sample of each row. -/
  id : Fin 128 → BitVec 32
  /-- The modulation of the two samples. -/
  ms : Fin 2 → Fin 3072 → ℝ

/-- One plus the modulation of a row's sample. -/
def Blk.w (B : Blk) (r : Fin 128) (j : Fin 3072) : ℝ := if B.id r = 0#32 then 1 + B.ms 0 j else 1 + B.ms 1 j

section Block

variable (B : Blk) {v5 v11 : FVec Ideal S1x128 .f32} {v14 : IVec S1x128 32} {v15 : Vec Ideal S128x3072 .fp8e4m3}
  {v18 : Vec Ideal S128x3072 .fp8e5m2} {v22 : Vec Ideal S16x3072 .bf16}

/-- The block's vectors hold its real numbers. -/
structure Holds (v5 v11 : FVec Ideal S1x128 .f32) (v14 : IVec S1x128 32) (v15 : Vec Ideal S128x3072 .fp8e4m3)
    (v18 : Vec Ideal S128x3072 .fp8e5m2) (v22 : Vec Ideal S16x3072 .bf16) : Prop where
  hsx : ∀ r, v5 (ix2 0 r) = ((B.sx r : ℝ) : EReal)
  hsh : ∀ r, v11 (ix2 0 r) = ((B.sh r : ℝ) : EReal)
  hid : ∀ r, v14 (ix2 0 r) = B.id r
  hx : ∀ r j, v15 (ix2 r j) = ((B.x r j : ℝ) : EReal)
  hh : ∀ r j, v18 (ix2 r j) = ((B.h r j : ℝ) : EReal)
  hw : ∀ k j, v22 (ix2 k j) = ((lhsRow B.ms k j : ℝ) : EReal)

variable {B} (H : Holds B v5 v11 v14 v15 v18 v22)
include H

/-- The row sums of dh against the left operand. -/
theorem pay16_apply (k : Fin 16) (r : Fin 128) :
    k0_pay16 v18 v22 (ix2 k r) = ((∑ j, lhsRow B.ms k j * B.h r j : ℝ) : EReal) := by
  pointwise [k0_pay16, k0_pay14, dot_S16x3072_S128x3072_S16x128_1_1_0_0_n_n]
  simp only [H.hw, H.hh, ← EReal.coe_mul, ← coe_sum]

/-- The row sums of x times dh against the left operand. -/
theorem pay17_apply (k : Fin 16) (r : Fin 128) :
    k0_pay17 v15 v18 v22 (ix2 k r) = ((∑ j, lhsRow B.ms k j * (B.x r j * B.h r j) : ℝ) : EReal) := by
  pointwise [k0_pay17, k0_pay15, k0_pay14, k0_pay13, dot_S16x3072_S128x3072_S16x128_1_1_0_0_n_n]
  simp only [H.hw, H.hh, H.hx, ← EReal.coe_mul, ← coe_sum]

/-- The sum of a row's codes. -/
theorem pay18_apply (r : Fin 128) : k0_pay18 v15 v22 (ix2 0 r) = ((∑ j, B.x r j : ℝ) : EReal) := by
  pointwise [k0_pay18, k0_pay13, dot_S16x3072_S128x3072_S16x128_1_1_0_0_n_n]
  have h6 : ∀ j, lhsRow B.ms 6 j = 1 := fun j => by simp [lhsRow]
  simp only [H.hw, H.hx, ← EReal.coe_mul, ← coe_sum, h6, one_mul]

/-- The mean of a row's codes. -/
theorem pay19_apply (r : Fin 128) : k0_pay19 v15 v22 (ix2 0 r) = ((mean (B.x r) : ℝ) : EReal) := by
  pointwise [k0_pay19]
  rw [pay18_apply H, inv_d, ← EReal.coe_mul]; rfl

/-- The spread of a row's codes. -/
theorem pay20_apply (r : Fin 128) : k0_pay20 v15 v22 (ix2 0 r) = ((spread (B.x r) : ℝ) : EReal) := by
  pointwise [k0_pay20, k0_pay13, dot_S128x3072_S128x3072_S128x128_1_1_0_0_n_n]
  simp only [select_eq, ofNat_eq_iff, Finset.sum_ite_eq', Finset.mem_univ, ↓reduceIte]
  rw [pay18_apply H, pay19_apply H]
  simp only [H.hx, ← EReal.coe_mul, ← coe_sum, ← EReal.coe_sub]; rfl

/-- The reciprocal standard deviation. -/
theorem pay21_apply (r : Fin 128) :
    k0_pay21 v5 (k0_pay20 v15 v22) (ix2 0 r) = ((rstd Consts.eps (B.x r) (B.sx r) : ℝ) : EReal) := by
  pointwise [k0_pay21]
  rw [H.hsx, pay20_apply H, inv_d, Consts.ofBits_eps]
  simp only [← EReal.coe_mul, ← EReal.coe_add]
  exact rsqrt_pos (radicand_pos _ _ _ Consts.eps_pos)

/-- The scale over the standard deviation. -/
theorem pay22_apply (r : Fin 128) :
    k0_pay22 v5 (k0_pay20 v15 v22) (ix2 0 r) = ((ratio Consts.eps (B.x r) (B.sx r) : ℝ) : EReal) := by
  pointwise [k0_pay22]
  rw [pay21_apply H, H.hsx, ← EReal.coe_mul]; rfl

/-- The row sums of dh against one plus the row's modulation. -/
theorem pay24_apply (r : Fin 128) :
    k0_pay24 v14 (k0_pay16 v18 v22) (ix2 0 r) = ((∑ j, B.w r j * B.h r j : ℝ) : EReal) := by
  pointwise [k0_pay24, k0_pay23]
  simp only [pay16_apply H, select_eq, H.hid, ← EReal.coe_add]
  rw [lhs_rows, lhs_rows']
  unfold Blk.w
  split <;> rfl

/-- The mean of the gradient times the normalized row. -/
theorem pay25_apply (r : Fin 128) :
    k0_pay25 v5 v11 v14 (k0_pay16 v18 v22) (k0_pay17 v15 v18 v22) (k0_pay19 v15 v22) (k0_pay20 v15 v22) (ix2 0 r)
      = ((gxMean Consts.eps (B.x r) (B.h r) (B.w r) (B.sx r) (B.sh r) : ℝ) : EReal) := by
  pointwise [k0_pay25, k0_pay23]
  simp only [pay17_apply H, pay19_apply H, pay22_apply H, pay24_apply H, select_eq, H.hid, H.hsh, ← EReal.coe_add, inv_d]
  rw [lhs_rows _ fun j => B.x r j * B.h r j, lhs_rows' _ fun j => B.x r j * B.h r j]
  have h : (if B.id r = 0#32 then ((∑ j, (1 + B.ms 0 j) * (B.x r j * B.h r j) : ℝ) : EReal)
      else ((∑ j, (1 + B.ms 1 j) * (B.x r j * B.h r j) : ℝ) : EReal)) = ((∑ j, B.w r j * (B.x r j * B.h r j) : ℝ) : EReal) := by
    unfold Blk.w
    split <;> rfl
  rw [h]
  simp only [← EReal.coe_mul, ← EReal.coe_sub]; rfl

/-- The factor of dh, a column beside each row. -/
theorem pay26_apply (p q : Fin 128) : k0_pay26 v5 v11 (k0_pay20 v15 v22) (ix2 p q)
    = ((rstd Consts.eps (B.x p) (B.sx p) * B.sh p : ℝ) : EReal) := by
  pointwise [k0_pay26]
  rw [pay21_apply H, H.hsh, EReal.coe_mul]

/-- The factor of x, a column beside each row. -/
theorem pay27_apply (p q : Fin 128) :
    k0_pay27 v5 v11 v14 (k0_pay16 v18 v22) (k0_pay17 v15 v18 v22) (k0_pay19 v15 v22) (k0_pay20 v15 v22) (ix2 p q)
      = ((rstd Consts.eps (B.x p) (B.sx p) * ratio Consts.eps (B.x p) (B.sx p)
          * gxMean Consts.eps (B.x p) (B.h p) (B.w p) (B.sx p) (B.sh p) : ℝ) : EReal) := by
  pointwise [k0_pay27]
  rw [pay21_apply H, pay22_apply H, pay25_apply H, EReal.coe_mul, EReal.coe_mul]

/-- The term that each row adds, a column beside each row. -/
theorem pay29_apply (p q : Fin 128) :
    k0_pay29 (k0_pay28 v5 v11 v14 (k0_pay16 v18 v22) (k0_pay17 v15 v18 v22) (k0_pay19 v15 v22) (k0_pay20 v15 v22)) (ix2 p q)
      = ((rstd Consts.eps (B.x p) (B.sx p) * (ratio Consts.eps (B.x p) (B.sx p) * mean (B.x p)
          * gxMean Consts.eps (B.x p) (B.h p) (B.w p) (B.sx p) (B.sh p) - gMean (B.h p) (B.w p) (B.sh p)) : ℝ) : EReal) := by
  pointwise [k0_pay29, k0_pay28]
  rw [pay21_apply H, pay22_apply H, pay25_apply H, pay19_apply H, pay24_apply H, H.hsh, inv_d]
  simp only [← EReal.coe_mul, ← EReal.coe_sub]; rfl

/-- The first of the two factors of the kernel's products. -/
theorem pay32_apply (r : Fin 128) :
    k0_pay32 v11 (k0_pay22 v5 (k0_pay20 v15 v22)) (ix2 0 r) = ((B.sh r * ratio Consts.eps (B.x r) (B.sx r) : ℝ) : EReal) := by
  pointwise [k0_pay32]
  rw [pay22_apply H, H.hsh, EReal.coe_mul]

/-- The second of the two factors of the kernel's products. -/
theorem pay33_apply (r : Fin 128) :
    k0_pay33 v11 (k0_pay19 v15 v22) (k0_pay22 v5 (k0_pay20 v15 v22)) (ix2 0 r)
      = (((0 - B.sh r * ratio Consts.eps (B.x r) (B.sx r)) * mean (B.x r) : ℝ) : EReal) := by
  pointwise [k0_pay33]
  rw [pay32_apply H, pay19_apply H, ← EReal.coe_zero]
  simp only [← EReal.coe_mul, ← EReal.coe_sub]

omit H

/-- The dy scales, a column beside each row. -/
theorem pay30_apply (v8 : FVec Ideal S1x128 .f32) (p q : Fin 128) : k0_pay30 v8 (ix2 p q) = v8 (ix2 0 p) := by
  pointwise [k0_pay30]

/-- The rows of the first sample, a column beside each row. -/
theorem pay31_apply (v48 : IVec S1x128 1) (p q : Fin 128) : k0_pay31 (F := Ideal) v48 (ix2 p q) = v48 (ix2 0 p) := by
  pointwise [k0_pay31]
  generalize v48 (ix2 0 p) = b
  rw [Consts.ofBits_half]
  show BitVec.ofBool (decide (((1 / 2 : ℝ) : EReal) < (((BitVec.setWidth 32 b).toInt : ℝ) : EReal))) = b
  have hb : b = 0#1 ∨ b = 1#1 := by revert b; decide
  rcases hb with rfl | rfl
  · have h : ¬ ((1 / 2 : ℝ) : EReal) < (((BitVec.setWidth 32 0#1).toInt : ℝ) : EReal) := by
      rw [EReal.coe_lt_coe_iff]; simp
    rw [decide_eq_false h]; rfl
  · have h : ((1 / 2 : ℝ) : EReal) < (((BitVec.setWidth 32 1#1).toInt : ℝ) : EReal) := by
      rw [EReal.coe_lt_coe_iff]; simp; norm_num
    rw [decide_eq_true h]; rfl

/-- The left operand of the kernel's products: each of its factors as three numbers that add up to it, one row for all
    rows of the block and one for each sample. -/
def lhsTile (v11 v36 v46 : FVec Ideal S1x128 .f32) (v48 : IVec S1x128 1) : FVec Ideal S24x256 .bf16 :=
  k0_pay55 v48 k0_pay34 (k0_pay37 v11) (k0_pay38 v11) (k0_pay41 v11 v36 v46) (k0_pay42 v11 v36 v46) (k0_pay45 v11 v46)
    (k0_pay46 v11 v46) (k0_pay47 v11) (k0_pay48 v11 v48) (k0_pay49 v11 v48) (k0_pay50 v11 v36 v46)
    (k0_pay51 v11 v36 v46 v48) (k0_pay52 v11 v36 v46 v48) (k0_pay53 v11 v46) (k0_pay54 v11 v46 v48)
    (Scalar.ofBits .f32 0x00000000#32)

/-- The factor `f` of a row in row `k` of the products: for all, for the first sample, for the second, or none. -/
def sel (B : Blk) (k : ℕ) (f : Fin 128 → ℝ) (r : Fin 128) : ℝ :=
  if k % 4 = 0 then f r else if k % 4 = 1 then (if B.id r = 0#32 then f r else 0)
    else if k % 4 = 2 then (if B.id r = 0#32 then 0 else f r) else 0

/-- The factor of dh in row `k` of the products. -/
def facH (B : Blk) (k : ℕ) (r : Fin 128) : ℝ :=
  if k < 4 then sel B k B.sh r
    else sel B k (fun r => (0 - B.sh r * ratio Consts.eps (B.x r) (B.sx r)) * mean (B.x r)) r

/-- The factor of x times dh in row `k` of the products. -/
def facP (B : Blk) (k : ℕ) (r : Fin 128) : ℝ :=
  if k < 4 then 0 else sel B k (fun r => B.sh r * ratio Consts.eps (B.x r) (B.sx r)) r

include H

/-- The left operand of the products: factors of dh, then factors of x times dh, and zeros for the remainders. -/
theorem lhsTile_apply (k : Fin 24) (q : Fin 256) :
    lhsTile v11 (k0_pay19 v15 v22) (k0_pay22 v5 (k0_pay20 v15 v22)) (k0_pay23 v14) (ix2 k q)
      = ((if k.val < 8 then (if hq : q.val < 128 then facH B k.val ⟨q.val, hq⟩ else facP B k.val ⟨q.val - 128, by omega⟩) else 0 : ℝ) : EReal) := by
  unfold lhsTile k0_pay55
  pointwise [k0_pay34, k0_pay37, k0_pay38, k0_pay41, k0_pay42, k0_pay45, k0_pay46, k0_pay47, k0_pay48, k0_pay49, k0_pay50,
    k0_pay51, k0_pay52, k0_pay53, k0_pay54, k0_pay35, k0_pay36, k0_pay39, k0_pay40, k0_pay43, k0_pay44, k0_pay23]
  have e32 : ∀ (z : Fin 1) (r : Fin 128), k0_pay32 v11 (k0_pay22 v5 (k0_pay20 v15 v22)) (ix2 z r)
      = ((B.sh r * ratio Consts.eps (B.x r) (B.sx r) : ℝ) : EReal) := fun z r => by
    rw [Subsingleton.elim z 0]; exact pay32_apply H r
  have e33 : ∀ (z : Fin 1) (r : Fin 128), k0_pay33 v11 (k0_pay19 v15 v22) (k0_pay22 v5 (k0_pay20 v15 v22)) (ix2 z r)
      = (((0 - B.sh r * ratio Consts.eps (B.x r) (B.sx r)) * mean (B.x r) : ℝ) : EReal) :=
    fun z r => by rw [Subsingleton.elim z 0]; exact pay33_apply H r
  have esh : ∀ (z : Fin 1) (r : Fin 128), v11 (ix2 z r) = ((B.sh r : ℝ) : EReal) := fun z r => by rw [Subsingleton.elim z 0]; exact H.hsh r
  have eid : ∀ (z : Fin 1) (r : Fin 128), v14 (ix2 z r) = B.id r := fun z r => by rw [Subsingleton.elim z 0]; exact H.hid r
  simp only [e32, e33, esh, eid, select_eq, sub_self_coe, sub_zero, ite_self]
  fin_vals k with hk
  all_goals simp only [hk, Nat.reduceSub, Nat.reduceLT, ↓reduceDIte, ↓reduceIte, dite_eq_ite, ite_self, EReal.coe_zero,
    facH, facP, sel, Nat.reduceMod, Nat.reduceEqDiff, OfNat.ofNat_ne_zero, OfNat.ofNat_ne_one, one_ne_zero, zero_ne_one]
  all_goals (by_cases hq : q.val < 128 <;> simp only [hq, ↓reduceDIte, ↓reduceIte, EReal.coe_zero])
  all_goals (split <;> simp only [EReal.coe_zero])

end Block

end Cert.Rows

end
-- ==== Proof.Tiles.lean ====
/- What the kernel stores tile by tile, over any column offset: the products of a block with its factors, the sums for the
   gate, and the gradient of x. Each is read at an index against a block of real numbers (`Rows.Holds`). -/
module

public import proofs.«01_k».proof.Proof.Rows
public import Idealize.ShloMosaic.Lib.Pipeline.ValueKit.Acc
public import Idealize.ShloMosaic.Lib.Pipeline.ReadBack

@[expose] public section

noncomputable section

namespace Cert.Tiles

open Cert.KernelIdeal Cert.KernelIdeal.Gen Idealize.ShloMosaic Idealize.ShloMosaic.TcCoe Idealize.SL.Sem Cert.RowMath Cert.Rows

section Defs

variable (B : Blk) (v8 : FVec Ideal S1x128 .f32) (X7 : Vec Ideal S128x3072 .fp8e5m2) (X6 : Vec Ideal S128x3072 .bf16)

/-- Row `k` of a block's products at a column. -/
def prodR (k : ℕ) (j : Fin 3072) : ℝ := ∑ r, facH B k r * B.h r j + ∑ r, facP B k r * (B.x r j * B.h r j)

/-- A block's sum of dy times f over the rows of the first sample. -/
def gate0 (j : Fin 3072) : EReal := ∑ r : Fin 128, if B.id r = 0#32 then X7 (ix2 r j) * v8 (ix2 0 r) * X6 (ix2 r j) else 0

/-- A block's sum of dy times f over the other rows. -/
def gate1 (j : Fin 3072) : EReal := ∑ r : Fin 128, if B.id r = 0#32 then 0 else X7 (ix2 r j) * v8 (ix2 0 r) * X6 (ix2 r j)

/-- A block's gradient of x. -/
def dxE (r : Fin 128) (j : Fin 3072) : EReal :=
  X7 (ix2 r j) * v8 (ix2 0 r) + ((grad Consts.eps (B.x r) (B.h r) (B.w r) (B.sx r) (B.sh r) j : ℝ) : EReal)

/-- The gradient of x as one array. -/
def dxArr : Vec Ideal S128x3072 .bf16 := fun i => dxE B v8 X7 (i 0) (i 1)

/-- The block sums as one array. -/
def sumArr : Vec Ideal S1x3x3072 .f32 := fun i =>
  if (i 1).val = 0 then ((prodR B 0 (i 2) : ℝ) : EReal) else if (i 1).val = 1 then ((prodR B 4 (i 2) : ℝ) : EReal)
    else gate0 B v8 X7 X6 (i 2) + gate1 B v8 X7 X6 (i 2)

/-- An array of eight rows plus the block's products. -/
def tileArr (Z : Vec Ideal S8x3072 .f32) : Vec Ideal S8x3072 .f32 := fun i => Z i + ((prodR B (i 0).val (i 1) : ℝ) : EReal)

/-- An array of eight rows plus the block's sums for the gate. -/
def rowArr (Z : Vec Ideal S8x3072 .f32) : Vec Ideal S8x3072 .f32 := fun i =>
  Z i + if (i 0).val = 3 then gate0 B v8 X7 X6 (i 1) else gate1 B v8 X7 X6 (i 1)

end Defs

/-- Eight rows of products of a left operand with the columns from `o` on, added up from three rows each. -/
def oTile {o : ℕ} (hs : S128x3072.Slices ![0, o] S128x256) (v20 v21 : FVec Ideal S128x3072 .bf16) (L : FVec Ideal S24x256 .bf16) :
    FVec Ideal S8x256 .f32 :=
  have M : FVec Ideal S24x256 .f32 := matmul dot_S24x256_S256x256_S24x256_1_0_0_1_n_n none L
    (concatenate S256x256 0 [⟨S128x256, extractStridedSlice S128x256 ![0, o] v20 hs⟩, ⟨S128x256, extractStridedSlice S128x256 ![0, o] v21 hs⟩]
      concatenates_S128x256_S128x256_S256x256_d0) (constant S24x256 .f32 0x00000000#32)
  addf (addf (extractStridedSlice S8x256 ![0, 0] M slices_S24x256_o0_0_S8x256) (extractStridedSlice S8x256 ![8, 0] M slices_S24x256_o8_0_S8x256))
    (extractStridedSlice S8x256 ![16, 0] M slices_S24x256_o16_0_S8x256)

section Block

variable {B : Blk} {v5 v11 v8 : FVec Ideal S1x128 .f32} {v14 : IVec S1x128 32} {v15 : Vec Ideal S128x3072 .fp8e4m3}
  {v18 : Vec Ideal S128x3072 .fp8e5m2} {v22 : Vec Ideal S16x3072 .bf16} {X7 : Vec Ideal S128x3072 .fp8e5m2}
  {X6 : Vec Ideal S128x3072 .bf16} {X4 : Vec Ideal S2x3072 .f32}
  (H : Holds B v5 v11 v14 v15 v18 v22)
include H

/-- The gradient of x, tile by tile. -/
theorem dx_piece (hms : ∀ s j, X4 (ix2 s j) = ((B.ms s j : ℝ) : EReal)) {o : ℕ}
    (inb : ∀ a, (![0, o] : Fin 2 → ℕ) a + S128x128.size a ≤ S128x3072.size a)
    (inb0 : ∀ a, (![0, o] : Fin 2 → ℕ) a + S1x128.size a ≤ S2x3072.size a)
    (inb1 : ∀ a, (![1, o] : Fin 2 → ℕ) a + S1x128.size a ≤ S2x3072.size a)
    (x : (Rect.unit (s := S128x3072) ![0, o] S128x128.size inb).shape.Idx) :
    k0_pay110 (k0_pay26 v5 v11 (k0_pay20 v15 v22))
      (k0_pay27 v5 v11 v14 (k0_pay16 v18 v22) (k0_pay17 v15 v18 v22) (k0_pay19 v15 v22) (k0_pay20 v15 v22))
      (k0_pay29 (k0_pay28 v5 v11 v14 (k0_pay16 v18 v22) (k0_pay17 v15 v18 v22) (k0_pay19 v15 v22) (k0_pay20 v15 v22)))
      (k0_pay30 v8) (k0_pay31 (F := Ideal) (k0_pay23 v14))
      (View.ld X4 (Rect.unit (s := S2x3072) ![0, o] S1x128.size inb0)) (View.ld X4 (Rect.unit (s := S2x3072) ![1, o] S1x128.size inb1))
      (View.ld X7 (Rect.unit (s := S128x3072) ![0, o] S128x128.size inb)) (View.ld v18 (Rect.unit (s := S128x3072) ![0, o] S128x128.size inb))
      (View.ld v15 (Rect.unit (s := S128x3072) ![0, o] S128x128.size inb)) x
      = dxArr B v8 X7 ((Rect.unit (s := S128x3072) ![0, o] S128x128.size inb).emb x) := by
  obtain ⟨p, q, rfl⟩ : ∃ (p q : Fin 128), x = ix2 p q := ⟨x 0, x 1, by funext a; fin_cases a <;> rfl⟩
  have ho : o + q.val < 3072 := lt_of_lt_of_le (Nat.add_lt_add_left q.isLt o) (inb 1)
  have e : (Rect.unit (s := S128x3072) ![0, o] S128x128.size inb).emb (ix2 p q) = ix2 p ⟨o + q.val, ho⟩ := by
    funext a; apply Fin.ext; fin_cases a
    · show 0 + 1 * p.val = p.val; omega
    · show o + 1 * q.val = o + q.val; omega
  rw [e]
  pointwise [k0_pay110, k0_pay109]
  rw [pay26_apply H, pay27_apply H, pay29_apply H, pay30_apply, pay31_apply, H.hh, H.hx, hms, hms]
  have hs : ∀ a b : EReal, Scalar.select (k0_pay23 v14 (ix2 0 p)) a b = if B.id p = 0#32 then a else b := fun a b => by
    pointwise [k0_pay23]
    rw [select_eq, H.hid]
  rw [hs]
  simp only [one_add_coe]
  show _ = X7 (ix2 p ⟨o + q.val, ho⟩) * v8 (ix2 0 p) + ((grad Consts.eps (B.x p) (B.h p) (B.w p) (B.sx p) (B.sh p) ⟨o + q.val, ho⟩ : ℝ) : EReal)
  congr 1
  have hw : (if B.id p = 0#32 then ((1 + B.ms 0 ⟨o + q.val, ho⟩ : ℝ) : EReal) else ((1 + B.ms 1 ⟨o + q.val, ho⟩ : ℝ) : EReal))
      = ((B.w p ⟨o + q.val, ho⟩ : ℝ) : EReal) := by
    unfold Blk.w; split <;> rfl
  rw [hw]
  simp only [← EReal.coe_mul, ← EReal.coe_sub, ← EReal.coe_add]
  rfl

/-- The products, tile by tile. -/
theorem oTile_apply {o : ℕ} (hs : S128x3072.Slices ![0, o] S128x256) (k : Fin 8) (q : Fin 256) (ho : o + q.val < 3072) :
    oTile hs (k0_pay14 v18) (k0_pay15 v15 v18) (lhsTile v11 (k0_pay19 v15 v22) (k0_pay22 v5 (k0_pay20 v15 v22)) (k0_pay23 v14)) (ix2 k q)
      = ((prodR B k.val ⟨o + q.val, ho⟩ : ℝ) : EReal) := by
  unfold oTile
  pointwise [k0_pay13, k0_pay14, k0_pay15, dot_S24x256_S256x256_S24x256_1_0_0_1_n_n]
  have hk := k.isLt
  have h8 : ¬ 8 + k.val < 8 := by omega
  have h16 : ¬ 16 + k.val < 8 := by omega
  have hr : ∀ r : Fin 128, ¬ 128 + r.val < 128 := fun r => by omega
  simp only [lhsTile_apply H, H.hh, H.hx, hk, h8, h16, hr, Fin.isLt, ↓reduceIte, ↓reduceDIte, EReal.coe_zero, zero_mul,
    Finset.sum_const_zero, add_zero, Nat.add_sub_cancel_left, Fin.eta, ← EReal.coe_mul, ← coe_sum, ← EReal.coe_add]
  rfl

/-- The accumulator's tile: what was there plus the products. -/
theorem acc_piece {o : ℕ} (hs : S128x3072.Slices ![0, o] S128x256) (Z : Vec Ideal S8x3072 .f32)
    (inb : ∀ a, (![0, o] : Fin 2 → ℕ) a + S8x256.size a ≤ S8x3072.size a)
    (x : (Rect.unit (s := S8x3072) ![0, o] S8x256.size inb).shape.Idx) :
    k0_pay60 (oTile hs (k0_pay14 v18) (k0_pay15 v15 v18) (lhsTile v11 (k0_pay19 v15 v22) (k0_pay22 v5 (k0_pay20 v15 v22)) (k0_pay23 v14)))
        (View.ld Z (Rect.unit (s := S8x3072) ![0, o] S8x256.size inb)) x
      = tileArr B Z ((Rect.unit (s := S8x3072) ![0, o] S8x256.size inb).emb x) := by
  obtain ⟨p, q, rfl⟩ : ∃ (p : Fin 8) (q : Fin 256), x = ix2 p q := ⟨x 0, x 1, by funext a; fin_cases a <;> rfl⟩
  have ho : o + q.val < 3072 := lt_of_lt_of_le (Nat.add_lt_add_left q.isLt o) (inb 1)
  have e : (Rect.unit (s := S8x3072) ![0, o] S8x256.size inb).emb (ix2 p q) = ix2 p ⟨o + q.val, ho⟩ := by
    funext a; apply Fin.ext; fin_cases a
    · show 0 + 1 * p.val = p.val; omega
    · show o + 1 * q.val = o + q.val; omega
  rw [e]
  pointwise [k0_pay60]
  rw [oTile_apply H hs p q ho]
  rfl

/-- The first row of the block sums, tile by tile. -/
theorem sum0_piece {o : ℕ} (hs : S128x3072.Slices ![0, o] S128x256)
    (inb : ∀ a, (![0, 0, o] : Fin 3 → ℕ) a + S1x1x256.size a ≤ S1x3x3072.size a)
    (x : (Rect.unit (s := S1x3x3072) ![0, 0, o] S1x1x256.size inb).shape.Idx) :
    k0_pay58 (extractStridedSlice S1x256 ![0, 0] (oTile hs (k0_pay14 v18) (k0_pay15 v15 v18)
        (lhsTile v11 (k0_pay19 v15 v22) (k0_pay22 v5 (k0_pay20 v15 v22)) (k0_pay23 v14))) slices_S8x256_o0_0_S1x256) x
      = sumArr B v8 X7 X6 ((Rect.unit (s := S1x3x3072) ![0, 0, o] S1x1x256.size inb).emb x) := by
  obtain ⟨q, rfl⟩ : ∃ (q : Fin 256), x = ix3 0 0 q :=
    ⟨x 2, by funext a; fin_cases a; exacts [Subsingleton.elim (α := Fin 1) _ _, Subsingleton.elim (α := Fin 1) _ _, rfl]⟩
  have ho : o + q.val < 3072 := lt_of_lt_of_le (Nat.add_lt_add_left q.isLt o) (inb 2)
  have e : (Rect.unit (s := S1x3x3072) ![0, 0, o] S1x1x256.size inb).emb (ix3 0 0 q) = ix3 0 0 ⟨o + q.val, ho⟩ := by
    funext a; apply Fin.ext; fin_cases a
    · rfl
    · rfl
    · show o + 1 * q.val = o + q.val; omega
  rw [e]
  pointwise [k0_pay58]
  rw [oTile_apply H hs _ q ho]
  rfl

/-- The second row of the block sums, tile by tile. -/
theorem sum1_piece {o : ℕ} (hs : S128x3072.Slices ![0, o] S128x256)
    (inb : ∀ a, (![0, 1, o] : Fin 3 → ℕ) a + S1x1x256.size a ≤ S1x3x3072.size a)
    (x : (Rect.unit (s := S1x3x3072) ![0, 1, o] S1x1x256.size inb).shape.Idx) :
    k0_pay59 (oTile hs (k0_pay14 v18) (k0_pay15 v15 v18)
        (lhsTile v11 (k0_pay19 v15 v22) (k0_pay22 v5 (k0_pay20 v15 v22)) (k0_pay23 v14))) x
      = sumArr B v8 X7 X6 ((Rect.unit (s := S1x3x3072) ![0, 1, o] S1x1x256.size inb).emb x) := by
  obtain ⟨q, rfl⟩ : ∃ (q : Fin 256), x = ix3 0 0 q :=
    ⟨x 2, by funext a; fin_cases a; exacts [Subsingleton.elim (α := Fin 1) _ _, Subsingleton.elim (α := Fin 1) _ _, rfl]⟩
  have ho : o + q.val < 3072 := lt_of_lt_of_le (Nat.add_lt_add_left q.isLt o) (inb 2)
  have e : (Rect.unit (s := S1x3x3072) ![0, 1, o] S1x1x256.size inb).emb (ix3 0 0 q) = ix3 0 1 ⟨o + q.val, ho⟩ := by
    funext a; apply Fin.ext; fin_cases a
    · rfl
    · rfl
    · show o + 1 * q.val = o + q.val; omega
  rw [e]
  pointwise [k0_pay59]
  rw [oTile_apply H hs _ q ho]
  rfl

/-- A choice on the rows of the first sample. -/
theorem select_first (p q : Fin 128) (a b : EReal) :
    Scalar.select (k0_pay31 (F := Ideal) (k0_pay23 v14) (ix2 p q)) a b = if B.id p = 0#32 then a else b := by
  rw [pay31_apply]
  pointwise [k0_pay23]
  rw [select_eq, H.hid]

/-- The sum for the gate over the rows of the first sample, tile by tile. -/
theorem gate0_apply {o : ℕ} (inb : ∀ a, (![0, o] : Fin 2 → ℕ) a + S128x128.size a ≤ S128x3072.size a) (q : Fin 128)
    (ho : o + q.val < 3072) (z : Fin 1) :
    k0_pay112 (k0_pay30 v8) (k0_pay31 (F := Ideal) (k0_pay23 v14)) (View.ld X7 (Rect.unit (s := S128x3072) ![0, o] S128x128.size inb))
      (View.ld X6 (Rect.unit (s := S128x3072) ![0, o] S128x128.size inb)) (ix2 z q) = gate0 B v8 X7 X6 ⟨o + q.val, ho⟩ := by
  pointwise [k0_pay112, k0_pay111, k0_pay109]
  simp only [select_first H, pay30_apply]
  rfl

/-- The sum for the gate over the other rows, tile by tile. -/
theorem gate1_apply {o : ℕ} (inb : ∀ a, (![0, o] : Fin 2 → ℕ) a + S128x128.size a ≤ S128x3072.size a) (q : Fin 128)
    (ho : o + q.val < 3072) (z : Fin 1) :
    k0_pay113 (k0_pay30 v8) (k0_pay31 (F := Ideal) (k0_pay23 v14)) (View.ld X7 (Rect.unit (s := S128x3072) ![0, o] S128x128.size inb))
      (View.ld X6 (Rect.unit (s := S128x3072) ![0, o] S128x128.size inb)) (ix2 z q) = gate1 B v8 X7 X6 ⟨o + q.val, ho⟩ := by
  pointwise [k0_pay113, k0_pay111, k0_pay109]
  simp only [select_first H, pay30_apply]
  rfl

/-- The third row of the block sums, tile by tile. -/
theorem sum2_piece {o : ℕ} (inb' : ∀ a, (![0, o] : Fin 2 → ℕ) a + S128x128.size a ≤ S128x3072.size a)
    (inb : ∀ a, (![0, 2, o] : Fin 3 → ℕ) a + S1x1x128.size a ≤ S1x3x3072.size a)
    (x : (Rect.unit (s := S1x3x3072) ![0, 2, o] S1x1x128.size inb).shape.Idx) :
    k0_pay114 (k0_pay112 (k0_pay30 v8) (k0_pay31 (F := Ideal) (k0_pay23 v14)) (View.ld X7 (Rect.unit (s := S128x3072) ![0, o] S128x128.size inb'))
        (View.ld X6 (Rect.unit (s := S128x3072) ![0, o] S128x128.size inb')))
      (k0_pay113 (k0_pay30 v8) (k0_pay31 (F := Ideal) (k0_pay23 v14)) (View.ld X7 (Rect.unit (s := S128x3072) ![0, o] S128x128.size inb'))
        (View.ld X6 (Rect.unit (s := S128x3072) ![0, o] S128x128.size inb'))) x
      = sumArr B v8 X7 X6 ((Rect.unit (s := S1x3x3072) ![0, 2, o] S1x1x128.size inb).emb x) := by
  obtain ⟨q, rfl⟩ : ∃ (q : Fin 128), x = ix3 0 0 q :=
    ⟨x 2, by funext a; fin_cases a; exacts [Subsingleton.elim (α := Fin 1) _ _, Subsingleton.elim (α := Fin 1) _ _, rfl]⟩
  have ho : o + q.val < 3072 := lt_of_lt_of_le (Nat.add_lt_add_left q.isLt o) (inb 2)
  have e : (Rect.unit (s := S1x3x3072) ![0, 2, o] S1x1x128.size inb).emb (ix3 0 0 q) = ix3 0 2 ⟨o + q.val, ho⟩ := by
    funext a; apply Fin.ext; fin_cases a
    · rfl
    · rfl
    · show o + 1 * q.val = o + q.val; omega
  rw [e]
  pointwise [k0_pay114]
  rw [gate0_apply H inb' q ho, gate1_apply H inb' q ho]
  rfl

/-- The accumulator's row for the gate of the first sample, tile by tile. -/
theorem row3_piece {sig' : RefSig} {κ' : Kind} {sp : Space} {o : ℕ} (v : View sig' κ' sp S8x3072 .f32) (T : List (View.Piece (Elt Ideal) S8x3072 .f32))
    (inb' : ∀ a, (![0, o] : Fin 2 → ℕ) a + S128x128.size a ≤ S128x3072.size a)
    (inb : ∀ a, (![3, o] : Fin 2 → ℕ) a + S1x128.size a ≤ S8x3072.size a)
    (x : (Rect.unit (s := S8x3072) ![3, o] S1x128.size inb).shape.Idx) :
    k0_pay115 (k0_pay112 (k0_pay30 v8) (k0_pay31 (F := Ideal) (k0_pay23 v14)) (View.ld X7 (Rect.unit (s := S128x3072) ![0, o] S128x128.size inb'))
        (View.ld X6 (Rect.unit (s := S128x3072) ![0, o] S128x128.size inb')))
      (v.readCov T (Rect.unit (s := S8x3072) ![3, o] S1x128.size inb).toLoadRect) x
      = rowArr B v8 X7 X6 (View.canon T) ((Rect.unit (s := S8x3072) ![3, o] S1x128.size inb).emb x) := by
  obtain ⟨q, rfl⟩ : ∃ (q : Fin 128), x = ix2 0 q :=
    ⟨x 1, by funext a; fin_cases a; exacts [Subsingleton.elim (α := Fin 1) _ _, rfl]⟩
  have ho : o + q.val < 3072 := lt_of_lt_of_le (Nat.add_lt_add_left q.isLt o) (inb 1)
  have e : (Rect.unit (s := S8x3072) ![3, o] S1x128.size inb).emb (ix2 0 q) = ix2 3 ⟨o + q.val, ho⟩ := by
    funext a; apply Fin.ext; fin_cases a
    · rfl
    · show o + 1 * q.val = o + q.val; omega
  rw [View.readCov_eq_canon', e]
  pointwise [k0_pay115]
  rw [gate0_apply H inb' q ho]
  rfl

/-- The accumulator's row for the gate of the other sample, tile by tile. -/
theorem row7_piece {sig' : RefSig} {κ' : Kind} {sp : Space} {o : ℕ} (v : View sig' κ' sp S8x3072 .f32) (T : List (View.Piece (Elt Ideal) S8x3072 .f32))
    (inb' : ∀ a, (![0, o] : Fin 2 → ℕ) a + S128x128.size a ≤ S128x3072.size a)
    (inb : ∀ a, (![7, o] : Fin 2 → ℕ) a + S1x128.size a ≤ S8x3072.size a)
    (x : (Rect.unit (s := S8x3072) ![7, o] S1x128.size inb).shape.Idx) :
    k0_pay115 (k0_pay113 (k0_pay30 v8) (k0_pay31 (F := Ideal) (k0_pay23 v14)) (View.ld X7 (Rect.unit (s := S128x3072) ![0, o] S128x128.size inb'))
        (View.ld X6 (Rect.unit (s := S128x3072) ![0, o] S128x128.size inb')))
      (v.readCov T (Rect.unit (s := S8x3072) ![7, o] S1x128.size inb).toLoadRect) x
      = rowArr B v8 X7 X6 (View.canon T) ((Rect.unit (s := S8x3072) ![7, o] S1x128.size inb).emb x) := by
  obtain ⟨q, rfl⟩ : ∃ (q : Fin 128), x = ix2 0 q :=
    ⟨x 1, by funext a; fin_cases a; exacts [Subsingleton.elim (α := Fin 1) _ _, rfl]⟩
  have ho : o + q.val < 3072 := lt_of_lt_of_le (Nat.add_lt_add_left q.isLt o) (inb 1)
  have e : (Rect.unit (s := S8x3072) ![7, o] S1x128.size inb).emb (ix2 0 q) = ix2 7 ⟨o + q.val, ho⟩ := by
    funext a; apply Fin.ext; fin_cases a
    · rfl
    · show o + 1 * q.val = o + q.val; omega
  rw [View.readCov_eq_canon', e]
  pointwise [k0_pay115]
  rw [gate1_apply H inb' q ho]
  rfl

end Block

end Cert.Tiles

end
-- ==== Proof.Stores.lean ====
/- What a list of stores into the accumulator leaves: tiles of all eight rows, then rows 3 and 7 again. -/
module

public import proofs.«01_k».proof.Proof.Tiles
public import Idealize.ShloMosaic.Lib.Ring
public import Idealize.ShloMosaic.Lib.Pipeline.ReadBack

@[expose] public section

noncomputable section

namespace Cert.Stores

open Cert.KernelIdeal Cert.KernelIdeal.Gen Idealize.ShloMosaic Idealize.ShloMosaic.TcCoe Idealize.SL.Sem Cert.RowMath Cert.Rows Cert.Tiles

/-- One more piece of a prefix. -/
theorem take_cons {s : Shape} {e : EltTy} {Val : EltTy → Type} {G : s.Idx → Val e} {p : View.Piece Val s e} {L : List (View.Piece Val s e)} {n : ℕ}
    (h : ∀ x : p.1.shape.Idx, p.2 x = G (p.1.emb x)) (hL : View.PiecesOf G (L.take n)) : View.PiecesOf G ((p :: L).take (n + 1)) := ⟨h, hL⟩

/-- One more piece. -/
theorem cons {s : Shape} {e : EltTy} {Val : EltTy → Type} {G : s.Idx → Val e} {p : View.Piece Val s e} {L : List (View.Piece Val s e)}
    (h : ∀ x : p.1.shape.Idx, p.2 x = G (p.1.emb x)) (hL : View.PiecesOf G L) : View.PiecesOf G (p :: L) := ⟨h, hL⟩

/-- The stores of the accumulator. -/
abbrev Acc := List (View.Piece (Elt Ideal) S8x3072 .f32)

/-- The stores hold all tiles of row `k`. -/
def rowsAt (k : ℕ) (L : Acc) : Bool :=
  (List.range 24).all fun b => L.any fun p =>
    p.1.off 0 == k && p.1.size 0 == 1 && p.1.stride 0 == 1 && (p.1.off 1 == 128 * b && p.1.size 1 == 128 && p.1.stride 1 == 1)

/-- No store touches row `k`. -/
def apart (k : ℕ) (L : Acc) : Bool := L.all fun p => p.1.stride 0 == 1 && (k < p.1.off 0 || p.1.off 0 + p.1.size 0 ≤ k)

/-- Stores that hold a row leave their values there. -/
theorem canon_rows (G : S8x3072.Idx → EReal) (R T : Acc) (hR : View.PiecesOf (Val := Elt Ideal) (e := .f32) G R) (y : S8x3072.Idx)
    (h : rowsAt (y 0).val R = true) : View.canon (Val := Elt Ideal) (R ++ T) y = G y := by
  refine View.canon_append_of_piecesOf (Val := Elt Ideal) (e := .f32) G T R hR y ?_
  have hy : (y 1).val < 3072 := (y 1).isLt
  obtain ⟨p, hp, hq⟩ := List.any_eq_true.mp (List.all_eq_true.mp h ((y 1).val / 128) (List.mem_range.mpr (by omega)))
  simp only [Bool.and_eq_true, beq_iff_eq] at hq
  obtain ⟨⟨⟨a0, a1⟩, a2⟩, ⟨b0, b1⟩, b2⟩ := hq
  refine ⟨p, hp, LoadRect.mem_set _ |>.mpr fun a => ?_⟩
  match a with
  | ⟨0, _⟩ => exact ⟨0, by show 0 < p.1.size 0; omega, by show (y 0).val = p.1.off 0 + p.1.stride 0 * 0; omega⟩
  | ⟨1, _⟩ => exact ⟨(y 1).val % 128, by show _ < p.1.size 1; omega, by
      show (y 1).val = p.1.off 1 + p.1.stride 1 * _; rw [b0, b2]; omega⟩

/-- Stores that do not touch a row leave what was there. -/
theorem canon_apart (T : Acc) (y : S8x3072.Idx) : ∀ (R : Acc) (_ : apart (y 0).val R = true),
    View.canon (Val := Elt Ideal) (R ++ T) y = View.canon (Val := Elt Ideal) T y
  | [], _ => rfl
  | p :: R, h => by
    simp only [apart, List.all_cons, Bool.and_eq_true, beq_iff_eq, Bool.or_eq_true, decide_eq_true_eq] at h
    refine (View.canon_cons_of_not_mem (Val := Elt Ideal) p (R ++ T) fun hm => ?_).trans (canon_apart T y R h.2)
    obtain ⟨j, hj, e⟩ := (LoadRect.mem_set _).mp hm 0
    rw [h.1.1] at e
    omega

section Block

variable {B : Blk} {v8 : FVec Ideal S1x128 .f32} {X7 : Vec Ideal S128x3072 .fp8e5m2} {X6 : Vec Ideal S128x3072 .bf16}

/-- The accumulator after a block. -/
def accArr (B : Blk) (v8 : FVec Ideal S1x128 .f32) (X7 : Vec Ideal S128x3072 .fp8e5m2) (X6 : Vec Ideal S128x3072 .bf16)
    (Z : Vec Ideal S8x3072 .f32) : Vec Ideal S8x3072 .f32 := fun i =>
  Z i + ((prodR B (i 0).val (i 1) : ℝ) : EReal)
    + if (i 0).val = 3 then gate0 B v8 X7 X6 (i 1) else if (i 0).val = 7 then gate1 B v8 X7 X6 (i 1) else 0

/-- The twelve tiles over whatever was stored before. -/
theorem canon_tiles (Z : Vec Ideal S8x3072 .f32) (T : Acc) (h : View.PiecesOf (Val := Elt Ideal) (e := .f32) (tileArr B Z) (T.take 12))
    (hc : View.Piece.tiledL (T.take 12) S8x256.size = true) (y : S8x3072.Idx) : View.canon (Val := Elt Ideal) T y = tileArr B Z y := by
  conv_lhs => rw [← List.take_append_drop 12 T]
  exact View.canon_append_of_piecesOf (Val := Elt Ideal) (e := .f32) _ _ _ h y (View.cover_of_tiledL _ _ hc y)

/-- The tiles, then the rows for the gate: the accumulator after a block. -/
theorem canon_acc (Z : Vec Ideal S8x3072 .f32) (L : Acc) (hT : ∀ y, View.canon (Val := Elt Ideal) (L.drop 48) y = tileArr B Z y)
    (hR : View.PiecesOf (Val := Elt Ideal) (e := .f32) (rowArr B v8 X7 X6 (tileArr B Z)) (L.take 48))
    (h3 : rowsAt 3 (L.take 48) = true) (h7 : rowsAt 7 (L.take 48) = true)
    (h0 : ([0, 1, 2, 4, 5, 6].all fun k => apart k (L.take 48)) = true) (y : S8x3072.Idx) :
    View.canon (Val := Elt Ideal) L y = accArr B v8 X7 X6 Z y := by
  have hr : ∀ k, (y 0).val = k → rowsAt k (L.take 48) = true →
      View.canon (Val := Elt Ideal) L y = rowArr B v8 X7 X6 (tileArr B Z) y := fun k hk h => by
    conv_lhs => rw [← List.take_append_drop 48 L]
    exact canon_rows _ _ _ hR y (by rw [hk]; exact h)
  have hy : (y 0).val < 8 := (y 0).isLt
  unfold accArr
  by_cases y3 : (y 0).val = 3
  · rw [hr 3 y3 h3, if_pos y3]
    unfold rowArr
    rw [if_pos y3]; rfl
  by_cases y7 : (y 0).val = 7
  · rw [hr 7 y7 h7, if_neg y3, if_pos y7]
    unfold rowArr
    rw [if_neg y3]; rfl
  rw [if_neg y3, if_neg y7, add_zero]
  conv_lhs => rw [← List.take_append_drop 48 L]
  rw [canon_apart _ y _ (List.all_eq_true.mp h0 _ (by simp only [List.mem_cons, List.not_mem_nil, or_false]; omega)), hT]
  rfl

/-- A tile's store, read back within the tile. -/
theorem canon_head (G : S8x3072.Idx → EReal) {o : ℕ} (inb : ∀ a, (![0, o] : Fin 2 → ℕ) a + S8x256.size a ≤ S8x3072.size a)
    (w : (Rect.unit (s := S8x3072) ![0, o] S8x256.size inb).shape.Idx → EReal) (T : Acc)
    (h : ∀ x, w x = G ((Rect.unit (s := S8x3072) ![0, o] S8x256.size inb).emb x)) (k : Fin 8) (j : Fin 3072) (lo : o ≤ j.val) (hi : j.val < o + 256) :
    View.canon (Val := Elt Ideal) (e := .f32) (⟨Rect.unit (s := S8x3072) ![0, o] S8x256.size inb, w⟩ :: T) (ix2 k j) = G (ix2 k j) := by
  refine View.canon_append_of_piecesOf (Val := Elt Ideal) (e := .f32) G T [⟨Rect.unit (s := S8x3072) ![0, o] S8x256.size inb, w⟩] ⟨h, trivial⟩
    (ix2 k j) ⟨_, List.mem_singleton_self _, (Rect.mem_set_unit (inb := inb)).mpr fun a => ?_⟩
  match a with
  | ⟨0, _⟩ => exact ⟨Nat.zero_le _, by show k.val < 0 + 8; omega⟩
  | ⟨1, _⟩ => exact ⟨lo, hi⟩

section Gate

variable {v5 v8 v11 : FVec Ideal S1x128 .f32} {v14 : IVec S1x128 32} {v15 : Vec Ideal S128x3072 .fp8e4m3}
  {v18 : Vec Ideal S128x3072 .fp8e5m2} {v22 : Vec Ideal S16x3072 .bf16}

/-- The store of a tile of row 3: the accumulator's tile plus the gate of the first sample. -/
theorem row3_store (hN : Holds B v5 v11 v14 v15 v18 v22) {sig' : RefSig} {κ' : Kind} {sp : Space} {o o' : ℕ} (v : View sig' κ' sp S8x3072 .f32) (Z : Vec Ideal S8x3072 .f32)
    (inb0 : ∀ a, (![0, o'] : Fin 2 → ℕ) a + S8x256.size a ≤ S8x3072.size a)
    (w : (Rect.unit (s := S8x3072) ![0, o'] S8x256.size inb0).shape.Idx → EReal) (T : Acc)
    (inb' : ∀ a, (![0, o] : Fin 2 → ℕ) a + S128x128.size a ≤ S128x3072.size a)
    (inb : ∀ a, (![3, o] : Fin 2 → ℕ) a + S1x128.size a ≤ S8x3072.size a)
    (hw : ∀ x, w x = tileArr B Z ((Rect.unit (s := S8x3072) ![0, o'] S8x256.size inb0).emb x)) (lo : o' ≤ o) (hi : o + 128 ≤ o' + 256)
    (x : (Rect.unit (s := S8x3072) ![3, o] S1x128.size inb).shape.Idx) :
    k0_pay115 (k0_pay112 (k0_pay30 v8) (k0_pay31 (F := Ideal) (k0_pay23 v14)) (View.ld X7 (Rect.unit (s := S128x3072) ![0, o] S128x128.size inb'))
        (View.ld X6 (Rect.unit (s := S128x3072) ![0, o] S128x128.size inb')))
      (v.readCov (⟨Rect.unit (s := S8x3072) ![0, o'] S8x256.size inb0, w⟩ :: T) (Rect.unit (s := S8x3072) ![3, o] S1x128.size inb).toLoadRect) x
      = rowArr B v8 X7 X6 (tileArr B Z) ((Rect.unit (s := S8x3072) ![3, o] S1x128.size inb).emb x) := by
  rw [row3_piece hN v _ inb' inb x]
  unfold rowArr
  obtain ⟨q, rfl⟩ : ∃ (q : Fin 128), x = ix2 0 q :=
    ⟨x 1, by funext a; fin_cases a; exacts [Subsingleton.elim (α := Fin 1) _ _, rfl]⟩
  have ho : o + q.val < 3072 := lt_of_lt_of_le (Nat.add_lt_add_left q.isLt o) (inb 1)
  have e : (Rect.unit (s := S8x3072) ![3, o] S1x128.size inb).emb (ix2 0 q) = ix2 3 ⟨o + q.val, ho⟩ := by
    funext a; apply Fin.ext; fin_cases a
    · rfl
    · show o + 1 * q.val = o + q.val; omega
  rw [e, canon_head (tileArr B Z) inb0 w T hw 3 ⟨o + q.val, ho⟩ (Nat.le_trans lo (Nat.le_add_right _ _))
    (lt_of_lt_of_le (Nat.add_lt_add_left q.isLt o) hi)]

/-- The store of a tile of row 7: the accumulator's tile plus the gate of the other sample. -/
theorem row7_store (hN : Holds B v5 v11 v14 v15 v18 v22) {sig' : RefSig} {κ' : Kind} {sp : Space} {o o' : ℕ} (v : View sig' κ' sp S8x3072 .f32) (Z : Vec Ideal S8x3072 .f32)
    (inb0 : ∀ a, (![0, o'] : Fin 2 → ℕ) a + S8x256.size a ≤ S8x3072.size a)
    (w : (Rect.unit (s := S8x3072) ![0, o'] S8x256.size inb0).shape.Idx → EReal) (T : Acc)
    (inb' : ∀ a, (![0, o] : Fin 2 → ℕ) a + S128x128.size a ≤ S128x3072.size a)
    (inb : ∀ a, (![7, o] : Fin 2 → ℕ) a + S1x128.size a ≤ S8x3072.size a)
    (hw : ∀ x, w x = tileArr B Z ((Rect.unit (s := S8x3072) ![0, o'] S8x256.size inb0).emb x)) (lo : o' ≤ o) (hi : o + 128 ≤ o' + 256)
    (x : (Rect.unit (s := S8x3072) ![7, o] S1x128.size inb).shape.Idx) :
    k0_pay115 (k0_pay113 (k0_pay30 v8) (k0_pay31 (F := Ideal) (k0_pay23 v14)) (View.ld X7 (Rect.unit (s := S128x3072) ![0, o] S128x128.size inb'))
        (View.ld X6 (Rect.unit (s := S128x3072) ![0, o] S128x128.size inb')))
      (v.readCov (⟨Rect.unit (s := S8x3072) ![0, o'] S8x256.size inb0, w⟩ :: T) (Rect.unit (s := S8x3072) ![7, o] S1x128.size inb).toLoadRect) x
      = rowArr B v8 X7 X6 (tileArr B Z) ((Rect.unit (s := S8x3072) ![7, o] S1x128.size inb).emb x) := by
  rw [row7_piece hN v _ inb' inb x]
  unfold rowArr
  obtain ⟨q, rfl⟩ : ∃ (q : Fin 128), x = ix2 0 q :=
    ⟨x 1, by funext a; fin_cases a; exacts [Subsingleton.elim (α := Fin 1) _ _, rfl]⟩
  have ho : o + q.val < 3072 := lt_of_lt_of_le (Nat.add_lt_add_left q.isLt o) (inb 1)
  have e : (Rect.unit (s := S8x3072) ![7, o] S1x128.size inb).emb (ix2 0 q) = ix2 7 ⟨o + q.val, ho⟩ := by
    funext a; apply Fin.ext; fin_cases a
    · rfl
    · show o + 1 * q.val = o + q.val; omega
  rw [e, canon_head (tileArr B Z) inb0 w T hw 7 ⟨o + q.val, ho⟩ (Nat.le_trans lo (Nat.le_add_right _ _))
    (lt_of_lt_of_le (Nat.add_lt_add_left q.isLt o) hi)]

end Gate

/-- The row of the accumulator that holds a sample's column of `dmod`. -/
def rowOf : ℕ → ℕ → Fin 8
  | 0, 0 => 1 | 0, 1 => 5 | 0, _ => 3
  | _, 0 => 2 | _, 1 => 6 | _, _ => 7

/-- The whole of `dmod`, taken out of the accumulator. -/
def dmodArr (A : Vec Ideal S8x3072 .f32) : Vec Ideal S2x3x3072 .f32 := fun i => A (ix2 (rowOf (i 0).val (i 1).val) (i 2))

/-- One row of `dmod`, read back from the accumulator. -/
theorem dmod_store (pay : Vec Ideal S1x3072 .f32 → FVec Ideal S1x1x3072 .f32) (hpay : pay = k0_pay1) (k a b : ℕ) (hk : (rowOf a b).val = k)
    {sig' : RefSig} {κ' : Kind} {sp : Space} (v : View sig' κ' sp S8x3072 .f32) (A : Vec Ideal S8x3072 .f32) (L : Acc)
    (inb : ∀ i, (![k, 0] : Fin 2 → ℕ) i + S1x3072.size i ≤ S8x3072.size i)
    (inb' : ∀ i, (![a, b, 0] : Fin 3 → ℕ) i + S1x1x3072.size i ≤ S2x3x3072.size i)
    (h : ∀ q, View.canon (Val := Elt Ideal) L (ix2 (rowOf a b) q) = A (ix2 (rowOf a b) q))
    (x : (Rect.unit (s := S2x3x3072) ![a, b, 0] S1x1x3072.size inb').shape.Idx) :
    pay (v.readCov L (Rect.unit (s := S8x3072) ![k, 0] S1x3072.size inb).toLoadRect) x
      = dmodArr A ((Rect.unit (s := S2x3x3072) ![a, b, 0] S1x1x3072.size inb').emb x) := by
  obtain ⟨q, rfl⟩ : ∃ (q : Fin 3072), x = ix3 0 0 q :=
    ⟨x 2, by funext a; fin_cases a; exacts [Subsingleton.elim (α := Fin 1) _ _, Subsingleton.elim (α := Fin 1) _ _, rfl]⟩
  have e' : ((Rect.unit (s := S2x3x3072) ![a, b, 0] S1x1x3072.size inb').emb (ix3 0 0 q)) 2 = q := by
    apply Fin.ext; show 0 + 1 * q.val = q.val; omega
  rw [View.readCov_eq_canon', hpay]
  pointwise [k0_pay1]
  unfold dmodArr
  rw [e']
  refine Eq.trans (congrArg (View.canon (Val := Elt Ideal) (e := .f32) L) ?_) (h q)
  exact congrArg (fun i => (ix2 i q : S8x3072.Idx)) (Fin.ext hk.symm)

/-- One more row of `dmod`, read back from the accumulator. -/
theorem dmod_cons (pay : Vec Ideal S1x3072 .f32 → FVec Ideal S1x1x3072 .f32) (hpay : pay = k0_pay1) (k a b : ℕ) (hk : (rowOf a b).val = k)
    {sig' : RefSig} {κ' : Kind} {sp : Space} {v : View sig' κ' sp S8x3072 .f32} (A : Vec Ideal S8x3072 .f32) {L : Acc}
    {inb : ∀ i, (![k, 0] : Fin 2 → ℕ) i + (![1, 3072] : Fin 2 → ℕ) i ≤ S8x3072.size i}
    {inb' : ∀ i, (![a, b, 0] : Fin 3 → ℕ) i + (![1, 1, 3072] : Fin 3 → ℕ) i ≤ S2x3x3072.size i}
    {rest : List (View.Piece (Elt Ideal) S2x3x3072 .f32)}
    (h : ∀ q, View.canon (Val := Elt Ideal) L (ix2 (rowOf a b) q) = A (ix2 (rowOf a b) q))
    (hrest : View.PiecesOf (dmodArr A) rest) :
    View.PiecesOf (dmodArr A) (⟨Rect.unit (s := S2x3x3072) ![a, b, 0] ![1, 1, 3072] inb',
      pay (v.readCov L (Rect.unit (s := S8x3072) ![k, 0] ![1, 3072] inb).toLoadRect)⟩ :: rest) :=
  cons (dmod_store pay hpay k a b hk v A L inb inb' h) hrest

/-- A row only the tiles hold. -/
theorem tiles_row (Z : Vec Ideal S8x3072 .f32) (T : Acc) (h : View.PiecesOf (Val := Elt Ideal) (e := .f32) (tileArr B Z) (T.take 12))
    (hc : View.Piece.tiledL (T.take 12) S8x256.size = true) (k : Fin 8) (h3 : k.val ≠ 3) (h7 : k.val ≠ 7) (q : Fin 3072) :
    View.canon (Val := Elt Ideal) T (ix2 k q) = accArr B v8 X7 X6 Z (ix2 k q) := by
  rw [canon_tiles Z T h hc]
  unfold accArr
  rw [if_neg (show ¬ ((ix2 k q : S8x3072.Idx) 0).val = 3 from h3), if_neg (show ¬ ((ix2 k q : S8x3072.Idx) 0).val = 7 from h7), add_zero]; rfl

/-- A row the later stores hold. -/
theorem gate_row (n : ℕ) (Z : Vec Ideal S8x3072 .f32) (L : Acc) (k : Fin 8) (hk : k.val = 3 ∨ k.val = 7)
    (hR : View.PiecesOf (Val := Elt Ideal) (e := .f32) (rowArr B v8 X7 X6 (tileArr B Z)) (L.take n))
    (h : rowsAt k.val (L.take n) = true) (q : Fin 3072) :
    View.canon (Val := Elt Ideal) L (ix2 k q) = accArr B v8 X7 X6 Z (ix2 k q) := by
  conv_lhs => rw [← List.take_append_drop n L]
  rw [canon_rows _ _ _ hR (ix2 k q) h]
  unfold accArr rowArr
  rcases hk with hk | hk
  · rw [if_pos (show ((ix2 k q : S8x3072.Idx) 0).val = 3 from hk), if_pos (show ((ix2 k q : S8x3072.Idx) 0).val = 3 from hk)]; rfl
  · have hn : ¬ ((ix2 k q : S8x3072.Idx) 0).val = 3 := by show ¬ k.val = 3; omega
    rw [if_neg hn, if_neg hn, if_pos (show ((ix2 k q : S8x3072.Idx) 0).val = 7 from hk)]; rfl

section Products

/-- The product of one tile, all twenty-four rows. -/
abbrev tileM {o : ℕ} (hs : S128x3072.Slices ![0, o] S128x256) (v20 v21 : FVec Ideal S128x3072 .bf16) (L : FVec Ideal S24x256 .bf16) : FVec Ideal S24x256 .f32 :=
  matmul dot_S24x256_S256x256_S24x256_1_0_0_1_n_n none L
    (concatenate S256x256 0 [⟨S128x256, extractStridedSlice S128x256 ![0, o] v20 hs⟩, ⟨S128x256, extractStridedSlice S128x256 ![0, o] v21 hs⟩]
      concatenates_S128x256_S128x256_S256x256_d0) (constant S24x256 .f32 0x00000000#32)

/-- The three terms of the factors, summed. -/
abbrev threeM (M : FVec Ideal S24x256 .f32) : FVec Ideal S8x256 .f32 :=
  addf (addf (extractStridedSlice S8x256 ![0, 0] M slices_S24x256_o0_0_S8x256) (extractStridedSlice S8x256 ![8, 0] M slices_S24x256_o8_0_S8x256))
    (extractStridedSlice S8x256 ![16, 0] M slices_S24x256_o16_0_S8x256)

variable {v5 v11 : FVec Ideal S1x128 .f32} {v14 : IVec S1x128 32} {v15 : Vec Ideal S128x3072 .fp8e4m3}
  {v18 : Vec Ideal S128x3072 .fp8e5m2} {v22 : Vec Ideal S16x3072 .bf16} (H : Holds B v5 v11 v14 v15 v18 v22) {o : ℕ}
  (hs : S128x3072.Slices ![0, o] S128x256) {M : FVec Ideal S24x256 .f32}
  (hM : M = tileM hs (k0_pay14 v18) (k0_pay15 v15 v18) (lhsTile v11 (k0_pay19 v15 v22) (k0_pay22 v5 (k0_pay20 v15 v22)) (k0_pay23 v14)))
include H hM

/-- The store of a tile of the accumulator. -/
theorem acc_store (Z : Vec Ideal S8x3072 .f32) (inb : ∀ a, (![0, o] : Fin 2 → ℕ) a + S8x256.size a ≤ S8x3072.size a)
    (x : (Rect.unit (s := S8x3072) ![0, o] S8x256.size inb).shape.Idx) :
    shapeCast S8x256 (addf (View.ld Z (Rect.unit (s := S8x3072) ![0, o] S8x256.size inb)) (threeM M)) shapeCasts_S8x256_S8x256 x
      = tileArr B Z ((Rect.unit (s := S8x3072) ![0, o] S8x256.size inb).emb x) := by
  subst hM; exact acc_piece H hs Z inb x

/-- The store of a tile of the first row of the block sums. -/
theorem sum0_store (inb : ∀ a, (![0, 0, o] : Fin 3 → ℕ) a + S1x1x256.size a ≤ S1x3x3072.size a)
    (x : (Rect.unit (s := S1x3x3072) ![0, 0, o] S1x1x256.size inb).shape.Idx) :
    shapeCast S1x1x256 (extractStridedSlice S1x256 ![0, 0] (threeM M) slices_S8x256_o0_0_S1x256) shapeCasts_S1x256_S1x1x256 x
      = sumArr B v8 X7 X6 ((Rect.unit (s := S1x3x3072) ![0, 0, o] S1x1x256.size inb).emb x) := by
  subst hM; exact sum0_piece H hs inb x

/-- The store of a tile of the second row of the block sums. -/
theorem sum1_store (inb : ∀ a, (![0, 1, o] : Fin 3 → ℕ) a + S1x1x256.size a ≤ S1x3x3072.size a)
    (x : (Rect.unit (s := S1x3x3072) ![0, 1, o] S1x1x256.size inb).shape.Idx) :
    shapeCast S1x1x256 (extractStridedSlice S1x256 ![4, 0] (threeM M) slices_S8x256_o4_0_S1x256) shapeCasts_S1x256_S1x1x256 x
      = sumArr B v8 X7 X6 ((Rect.unit (s := S1x3x3072) ![0, 1, o] S1x1x256.size inb).emb x) := by
  subst hM; exact sum1_piece H hs inb x

end Products

end Block

end Cert.Stores

end
-- ==== Proof.Cases.lean ====
module

public import proofs.«01_k».proof.Proof.Stores
public import proofs.«01_k».proof.Proof.Gen.KernelIdeal.Value
public import Idealize.ShloMosaic.Lib.Pipeline.ValueKit.Acc

@[expose] public section

set_option maxRecDepth 100000
set_option maxHeartbeats 4000000

noncomputable section

namespace Cert.Cases

open Cert.KernelIdeal Cert.KernelIdeal.Gen Idealize.ShloMosaic Idealize.ShloMosaic.TcCoe Idealize.SL.Sem Cert.RowMath Cert.Rows Cert.Tiles Cert.Stores

/-! # What a grid point leaves in each buffer

The numbers a point reads, named; the theorems on each result are in `CaseDx`, `CaseSum`, `CaseAcc` and `CaseDmod`. A point is of one of three cases: `A` the first, `B` in between, `C` the last. -/

variable (m : (ℓ : Loc nD τ sig) → Buf (Elt Ideal) ℓ) (c : Dev nD) (t : Fin cfg0.N)

/-- The row of activation scales the point reads. -/
abbrev sx : FVec Ideal S1x128 .f32 := k0_pay9 (View.ld (iblk m c 0 t) (Rect.unit (s := S16x128) (k0_off1 (grid0.coords t)) S1x128.size (k0_off1_inb _)))

/-- The row of output-gradient scales the point reads. -/
abbrev sy : FVec Ideal S1x128 .f32 := k0_pay10 (View.ld (iblk m c 1 t) (Rect.unit (s := S16x128) (k0_off1 (grid0.coords t)) S1x128.size (k0_off1_inb _)))

/-- The row of hidden-gradient scales the point reads. -/
abbrev sh : FVec Ideal S1x128 .f32 := k0_pay11 (View.ld (iblk m c 2 t) (Rect.unit (s := S16x128) (k0_off1 (grid0.coords t)) S1x128.size (k0_off1_inb _)))

/-- The row of sample numbers the point reads. -/
abbrev ids : IVec S1x128 32 := k0_pay12 (View.ld (iblk m c 3 t) (Rect.unit (s := S16x128) (k0_off1 (grid0.coords t)) S1x128.size (k0_off1_inb _)))

/-- What the point before left in the two carried buffers. -/
abbrev before : Vec Ideal S16x3072 .bf16 × Vec Ideal S8x3072 .f32 := (outsAt0 m c (t.val - 1) (Nat.lt_of_le_of_lt (Nat.sub_le _ _) t.isLt)).2.2.2

/-- What the point reads are the numbers of the block `B`. -/
abbrev HoldsAt (B : Blk) (W : Vec Ideal S16x3072 .bf16) : Prop := Holds B (sx m c t) (sh m c t) (ids m c t) (iblk m c 5 t) (iblk m c 8 t) W

/-- The blocks as the kernel reads them: through the windows' buffers. -/
abbrev rawX : Vec Ideal S128x3072 .fp8e4m3 := View.ld (View.read (Elt Ideal) (ms0_5 t).view ((hs0_5 t).unread (iblk m c 5 t))) (Rect.unit (s := S128x3072) ![0, 0] S128x3072.size inb_S128x3072_S128x3072_0_0)

/-- The hidden-gradient block. -/
abbrev rawH : Vec Ideal S128x3072 .fp8e5m2 := View.ld (View.read (Elt Ideal) (ms0_8 t).view ((hs0_8 t).unread (iblk m c 8 t))) (Rect.unit (s := S128x3072) ![0, 0] S128x3072.size inb_S128x3072_S128x3072_0_0)

/-- The activation scales. -/
abbrev rawSx : FVec Ideal S1x128 .f32 := k0_pay9 (View.ld (View.read (Elt Ideal) (ms0_0 t).view ((hs0_0 t).unread (iblk m c 0 t))) (Rect.unit (s := S16x128) (k0_off1 (grid0.coords t)) S1x128.size (k0_off1_inb _)))

/-- The hidden-gradient scales. -/
abbrev rawSh : FVec Ideal S1x128 .f32 := k0_pay11 (View.ld (View.read (Elt Ideal) (ms0_2 t).view ((hs0_2 t).unread (iblk m c 2 t))) (Rect.unit (s := S16x128) (k0_off1 (grid0.coords t)) S1x128.size (k0_off1_inb _)))

/-- The sample numbers. -/
abbrev rawIds : IVec S1x128 32 := k0_pay12 (View.ld (View.read (Elt Ideal) (ms0_3 t).view ((hs0_3 t).unread (iblk m c 3 t))) (Rect.unit (s := S16x128) (k0_off1 (grid0.coords t)) S1x128.size (k0_off1_inb _)))

/-- The weights at the first point: read back from the buffer just filled. -/
abbrev rawWA : Vec Ideal S16x3072 .bf16 := (View.whole cc0_scratch0).readCov [⟨Rect.unit (s := S16x3072) ![0, 0] S16x3072.size inb_S16x3072_S16x3072_0_0, k0_pay7 (View.ld (View.read (Elt Ideal) (ms0_4 t).view ((hs0_4 t).unread (iblk m c 4 t))) (Rect.unit (s := S2x3072) ![0, 0] S2x3072.size inb_S2x3072_S2x3072_0_0))⟩] (Rect.unit (s := S16x3072) ![0, 0] S16x3072.size inb_S16x3072_S16x3072_0_0).toLoadRect

/-- The weights at a later point: read from the carried buffer. -/
abbrev rawWB : Vec Ideal S16x3072 .bf16 := View.ld (View.read (Elt Ideal) (View.whole cc0_scratch0) ((Memref.isWhole_whole cc0_scratch0).unread (before m c t).1)) (Rect.unit (s := S16x3072) ![0, 0] S16x3072.size inb_S16x3072_S16x3072_0_0)

/-- `HoldsAt`, for the blocks as the kernel reads them. -/
abbrev RawAt (B : Blk) (W : Vec Ideal S16x3072 .bf16) : Prop := Holds B (rawSx m c t) (rawSh m c t) (rawIds m c t) (rawX m c t) (rawH m c t) W

/-- Reading through a buffer gives what the buffer holds. -/
theorem raw_of (B : Blk) (W W' : Vec Ideal S16x3072 .bf16) (hW : W' = W) (H : HoldsAt m c t B W) : RawAt m c t B W' := by
  subst hW
  have e0 := (hs0_0 t).read_unread (Val := Elt Ideal) (iblk m c 0 t)
  have e2 := (hs0_2 t).read_unread (Val := Elt Ideal) (iblk m c 2 t)
  have e3 := (hs0_3 t).read_unread (Val := Elt Ideal) (iblk m c 3 t)
  have e5 := (hs0_5 t).read_unread (Val := Elt Ideal) (iblk m c 5 t)
  have e8 := (hs0_8 t).read_unread (Val := Elt Ideal) (iblk m c 8 t)
  unfold RawAt rawSx rawSh rawIds rawX rawH
  rw [e0, e2, e3, e5, e8, View.ld_unit_zero (by decide), View.ld_unit_zero (by decide)]
  exact H

/-- `HoldsAt` gives `RawAt` at the first point. -/
theorem raw_A (B : Blk) (H : HoldsAt m c t B (k0_pay7 (iblk m c 4 t))) : RawAt m c t B (rawWA m c t) :=
  raw_of m c t B _ _ (by
    have e4 := (hs0_4 t).read_unread (Val := Elt Ideal) (iblk m c 4 t)
    unfold rawWA
    rw [View.readCov_cons_toLoadRect, e4, View.ld_unit_zero (by decide)]) H

/-- `HoldsAt` gives `RawAt` at a later point. -/
theorem raw_B (B : Blk) (H : HoldsAt m c t B (before m c t).1) : RawAt m c t B (rawWB m c t) :=
  raw_of m c t B _ _ (by
    unfold rawWB
    rw [read_unread_whole]; exact View.ld_unit_zero (by decide) _ _) H

end Cert.Cases
-- ==== Proof.Blocks.lean ====
/- The blocks a point of the kernel reads, as rows of the arguments. -/
module

public import proofs.«01_k».proof.Proof.Inputs
public import proofs.«01_k».proof.Proof.Ref
public import proofs.«01_k».proof.Proof.Cases
public import Idealize.ShloMosaic.Lib.StableHlo.ReadAt

@[expose] public section

set_option maxRecDepth 16384

noncomputable section

namespace Cert.Blocks

open Cert.KernelIdeal Cert.KernelIdeal.Gen Idealize.ShloMosaic Idealize.ShloMosaic.TcCoe Idealize.SL.Sem
open Cert.Inputs Cert.Rows Cert.Ref Cert.Cases

variable (m : (ℓ : Loc nD τ sig) → Buf (Elt Ideal) ℓ) (c : Dev nD) (t : Fin cfg0.N)

/-- A grid point as a number below sixteen. -/
abbrev pt : Fin 16 := ⟨t.val, lt_of_lt_of_eq t.isLt N_0⟩

/-! ## The arrays the kernel is launched on -/

/-- The codes of argument 0, read as numbers. -/
theorem V_v0 (i : S2048x3072.Idx) : V m c main_v0 i = Ideal.ofBits .fp8e4m3 (m ((c : Thread nD τ).loc main_arg0) i) := by
  unfold V
  after_reads_at

/-- The codes of argument 5, read as numbers. -/
theorem V_v1 (i : S2048x3072.Idx) : V m c main_v1 i = Ideal.ofBits .fp8e5m2 (m ((c : Thread nD τ).loc main_arg5) i) := by
  unfold V
  after_reads_at

/-- Argument 1, laid out by blocks. -/
theorem V_v2 (q : Fin 16) (r : Fin 128) : V m c main_v2 (ix2 q r) = m ((c : Thread nD τ).loc main_arg1) (ix1 (row q r)) := by
  unfold V
  after_reads_at
  rfl

/-- Argument 4, laid out by blocks. -/
theorem V_v3 (q : Fin 16) (r : Fin 128) : V m c main_v3 (ix2 q r) = m ((c : Thread nD τ).loc main_arg4) (ix1 (row q r)) := by
  unfold V
  after_reads_at
  rfl

/-- Argument 6, laid out by blocks. -/
theorem V_v4 (q : Fin 16) (r : Fin 128) : V m c main_v4 (ix2 q r) = m ((c : Thread nD τ).loc main_arg6) (ix1 (row q r)) := by
  unfold V
  after_reads_at
  rfl

/-- Argument 7, laid out by blocks. -/
theorem V_v5 (q : Fin 16) (r : Fin 128) : V m c main_v5 (ix2 q r) = m ((c : Thread nD τ).loc main_arg7) (ix1 (row q r)) := by
  unfold V
  after_reads_at
  rfl

/-! ## The blocks -/

/-- Block 5 of a point is 128 rows of its array. -/
theorem blk5 (r : Fin 128) (j : Fin 3072) : iblk m c 5 t (ix2 r j) = V m c main_v0 (ix2 (row (pt t) r) j) := by
  unfold iblk
  rw [View.read_apply]
  show V m c main_v0 _ = _
  congr 1
  funext a
  obtain ⟨h0, h1⟩ := (by decide +kernel : ∀ t : Fin grid0.N, win0_5.index t 0 = t.val ∧ win0_5.index t 1 = 0) t
  match a with
  | ⟨0, _⟩ => apply Fin.ext; show win0_5.index t 0 * 128 + 1 * r.val = t.val * 128 + r.val; rw [h0]; omega
  | ⟨1, _⟩ => apply Fin.ext; show win0_5.index t 1 * 3072 + 1 * j.val = j.val; rw [h1]; omega

/-- Block 6 of a point is 128 rows of its array. -/
theorem blk6 (r : Fin 128) (j : Fin 3072) : iblk m c 6 t (ix2 r j) = V m c main_arg2 (ix2 (row (pt t) r) j) := by
  unfold iblk
  rw [View.read_apply]
  show V m c main_arg2 _ = _
  congr 1
  funext a
  obtain ⟨h0, h1⟩ := (by decide +kernel : ∀ t : Fin grid0.N, win0_6.index t 0 = t.val ∧ win0_6.index t 1 = 0) t
  match a with
  | ⟨0, _⟩ => apply Fin.ext; show win0_6.index t 0 * 128 + 1 * r.val = t.val * 128 + r.val; rw [h0]; omega
  | ⟨1, _⟩ => apply Fin.ext; show win0_6.index t 1 * 3072 + 1 * j.val = j.val; rw [h1]; omega

/-- Block 7 of a point is 128 rows of its array. -/
theorem blk7 (r : Fin 128) (j : Fin 3072) : iblk m c 7 t (ix2 r j) = V m c main_arg3 (ix2 (row (pt t) r) j) := by
  unfold iblk
  rw [View.read_apply]
  show V m c main_arg3 _ = _
  congr 1
  funext a
  obtain ⟨h0, h1⟩ := (by decide +kernel : ∀ t : Fin grid0.N, win0_7.index t 0 = t.val ∧ win0_7.index t 1 = 0) t
  match a with
  | ⟨0, _⟩ => apply Fin.ext; show win0_7.index t 0 * 128 + 1 * r.val = t.val * 128 + r.val; rw [h0]; omega
  | ⟨1, _⟩ => apply Fin.ext; show win0_7.index t 1 * 3072 + 1 * j.val = j.val; rw [h1]; omega

/-- Block 8 of a point is 128 rows of its array. -/
theorem blk8 (r : Fin 128) (j : Fin 3072) : iblk m c 8 t (ix2 r j) = V m c main_v1 (ix2 (row (pt t) r) j) := by
  unfold iblk
  rw [View.read_apply]
  show V m c main_v1 _ = _
  congr 1
  funext a
  obtain ⟨h0, h1⟩ := (by decide +kernel : ∀ t : Fin grid0.N, win0_8.index t 0 = t.val ∧ win0_8.index t 1 = 0) t
  match a with
  | ⟨0, _⟩ => apply Fin.ext; show win0_8.index t 0 * 128 + 1 * r.val = t.val * 128 + r.val; rw [h0]; omega
  | ⟨1, _⟩ => apply Fin.ext; show win0_8.index t 1 * 3072 + 1 * j.val = j.val; rw [h1]; omega

/-- The row of block 0 that a point reads. -/
theorem blk0 (r : Fin 128) :
    View.ld (iblk m c 0 t) (Rect.unit (s := S16x128) (k0_off1 (grid0.coords t)) S1x128.size (k0_off1_inb _)) (ix2 0 r) = V m c main_v2 (ix2 (pt t) r) := by
  unfold iblk View.ld
  rw [View.read_apply]
  show V m c main_v2 _ = _
  congr 1
  funext a
  obtain ⟨h0, h1, h2, h3⟩ := (by decide +kernel : ∀ t : Fin grid0.N, win0_0.index t 0 = 0 ∧ win0_0.index t 1 = 0
    ∧ k0_off1 (grid0.coords t) 0 = t.val ∧ k0_off1 (grid0.coords t) 1 = 0) t
  match a with
  | ⟨0, _⟩ => apply Fin.ext; show win0_0.index t 0 * 16 + 1 * (k0_off1 (grid0.coords t) 0 + 1 * 0) = t.val; rw [h0, h2]; omega
  | ⟨1, _⟩ => apply Fin.ext; show win0_0.index t 1 * 128 + 1 * (k0_off1 (grid0.coords t) 1 + 1 * r.val) = r.val; rw [h1, h3]; omega

/-- The row of block 1 that a point reads. -/
theorem blk1 (r : Fin 128) :
    View.ld (iblk m c 1 t) (Rect.unit (s := S16x128) (k0_off1 (grid0.coords t)) S1x128.size (k0_off1_inb _)) (ix2 0 r) = V m c main_v3 (ix2 (pt t) r) := by
  unfold iblk View.ld
  rw [View.read_apply]
  show V m c main_v3 _ = _
  congr 1
  funext a
  obtain ⟨h0, h1, h2, h3⟩ := (by decide +kernel : ∀ t : Fin grid0.N, win0_1.index t 0 = 0 ∧ win0_1.index t 1 = 0
    ∧ k0_off1 (grid0.coords t) 0 = t.val ∧ k0_off1 (grid0.coords t) 1 = 0) t
  match a with
  | ⟨0, _⟩ => apply Fin.ext; show win0_1.index t 0 * 16 + 1 * (k0_off1 (grid0.coords t) 0 + 1 * 0) = t.val; rw [h0, h2]; omega
  | ⟨1, _⟩ => apply Fin.ext; show win0_1.index t 1 * 128 + 1 * (k0_off1 (grid0.coords t) 1 + 1 * r.val) = r.val; rw [h1, h3]; omega

/-- The row of block 2 that a point reads. -/
theorem blk2 (r : Fin 128) :
    View.ld (iblk m c 2 t) (Rect.unit (s := S16x128) (k0_off1 (grid0.coords t)) S1x128.size (k0_off1_inb _)) (ix2 0 r) = V m c main_v4 (ix2 (pt t) r) := by
  unfold iblk View.ld
  rw [View.read_apply]
  show V m c main_v4 _ = _
  congr 1
  funext a
  obtain ⟨h0, h1, h2, h3⟩ := (by decide +kernel : ∀ t : Fin grid0.N, win0_2.index t 0 = 0 ∧ win0_2.index t 1 = 0
    ∧ k0_off1 (grid0.coords t) 0 = t.val ∧ k0_off1 (grid0.coords t) 1 = 0) t
  match a with
  | ⟨0, _⟩ => apply Fin.ext; show win0_2.index t 0 * 16 + 1 * (k0_off1 (grid0.coords t) 0 + 1 * 0) = t.val; rw [h0, h2]; omega
  | ⟨1, _⟩ => apply Fin.ext; show win0_2.index t 1 * 128 + 1 * (k0_off1 (grid0.coords t) 1 + 1 * r.val) = r.val; rw [h1, h3]; omega

/-- The row of block 3 that a point reads. -/
theorem blk3 (r : Fin 128) :
    View.ld (iblk m c 3 t) (Rect.unit (s := S16x128) (k0_off1 (grid0.coords t)) S1x128.size (k0_off1_inb _)) (ix2 0 r) = V m c main_v5 (ix2 (pt t) r) := by
  unfold iblk View.ld
  rw [View.read_apply]
  show V m c main_v5 _ = _
  congr 1
  funext a
  obtain ⟨h0, h1, h2, h3⟩ := (by decide +kernel : ∀ t : Fin grid0.N, win0_3.index t 0 = 0 ∧ win0_3.index t 1 = 0
    ∧ k0_off1 (grid0.coords t) 0 = t.val ∧ k0_off1 (grid0.coords t) 1 = 0) t
  match a with
  | ⟨0, _⟩ => apply Fin.ext; show win0_3.index t 0 * 16 + 1 * (k0_off1 (grid0.coords t) 0 + 1 * 0) = t.val; rw [h0, h2]; omega
  | ⟨1, _⟩ => apply Fin.ext; show win0_3.index t 1 * 128 + 1 * (k0_off1 (grid0.coords t) 1 + 1 * r.val) = r.val; rw [h1, h3]; omega

/-- Block 4 is the whole modulation, at every point. -/
theorem blk4 (s : Fin 2) (j : Fin 3072) : iblk m c 4 t (ix2 s j) = m ((c : Thread nD τ).loc main_arg8) (ix2 s j) := by
  rw [← V_main_arg8 m c]
  unfold iblk
  rw [View.read_apply]
  show V m c main_arg8 _ = _
  congr 1
  funext a
  obtain ⟨h0, h1⟩ := (by decide +kernel : ∀ t : Fin grid0.N, win0_4.index t 0 = 0 ∧ win0_4.index t 1 = 0) t
  match a with
  | ⟨0, _⟩ => apply Fin.ext; show win0_4.index t 0 * 2 + 1 * s.val = s.val; rw [h0]; omega
  | ⟨1, _⟩ => apply Fin.ext; show win0_4.index t 1 * 3072 + 1 * j.val = j.val; rw [h1]; omega

/-! ## The numbers of a block -/

/-- The numbers in block `q`. -/
def blkOf (D : Data) (q : Fin 16) : Blk where
  x r := D.x (row q r)
  h r := D.h (row q r)
  sx r := D.sx (row q r)
  sh r := D.sh (row q r)
  id r := D.id (row q r)
  ms := D.ms

/-- Element `(n, j)` of dy. -/
abbrev dyAt (n : Fin 2048) (j : Fin 3072) : EReal := m ((c : Thread nD τ).loc main_arg3) (ix2 n j)

/-- The scale of row `n` of dy. -/
abbrev dysAt (n : Fin 2048) : EReal := m ((c : Thread nD τ).loc main_arg4) (ix1 n)

/-- Element `(n, j)` of f. -/
abbrev fAt (n : Fin 2048) (j : Fin 3072) : EReal := m ((c : Thread nD τ).loc main_arg2) (ix2 n j)

/-- A point's block of dy. -/
theorem dy_eq (r : Fin 128) (j : Fin 3072) : iblk m c 7 t (ix2 r j) = dyAt m c (row (pt t) r) j := by
  rw [blk7, V_main_arg3]

/-- A point's block of f. -/
theorem f_eq (r : Fin 128) (j : Fin 3072) : iblk m c 6 t (ix2 r j) = fAt m c (row (pt t) r) j := by
  rw [blk6, V_main_arg2]

/-- A point's scales of dy. -/
theorem sy_eq (r : Fin 128) : sy m c t (ix2 0 r) = dysAt m c (row (pt t) r) := by
  unfold sy
  unfold k0_pay10
  rw [shapeCast_self, blk1, V_v3]

/-- The arguments of the run hold the numbers of `D`. -/
abbrev StandsAt (D : Data) : Prop := Stands D (m ((c : Thread nD τ).loc main_arg0)) (m ((c : Thread nD τ).loc main_arg1))
  (m ((c : Thread nD τ).loc main_arg5)) (m ((c : Thread nD τ).loc main_arg6)) (m ((c : Thread nD τ).loc main_arg7)) (m ((c : Thread nD τ).loc main_arg8))

variable {D : Data} (hD : StandsAt m c D)
include hD

/-- The modulation a point reads. -/
theorem ms_eq (s : Fin 2) (j : Fin 3072) : iblk m c 4 t (ix2 s j) = (((blkOf D (pt t)).ms s j : ℝ) : EReal) :=
  (blk4 m c t s j).trans (hD.hms s j)

/-- What a point reads are the numbers of its block, given that the weights it finds are right. -/
theorem holds (W : Vec Ideal S16x3072 .bf16) (hW : ∀ k j, W (ix2 k j) = ((lhsRow D.ms k j : ℝ) : EReal)) :
    HoldsAt m c t (blkOf D (pt t)) W where
  hsx r := by unfold sx k0_pay9; rw [shapeCast_self, blk0, V_v2]; exact hD.hsx _
  hsh r := by unfold sh k0_pay11; rw [shapeCast_self, blk2, V_v4]; exact hD.hsh _
  hid r := by unfold ids k0_pay12; rw [shapeCast_self, blk3, V_v5]; exact hD.hid _
  hx r j := by rw [blk5, V_v0]; exact hD.hx _ _
  hh r j := by rw [blk8, V_v1]; exact hD.hh _ _
  hw := hW

end Cert.Blocks
-- ==== Proof.Sums.lean ====
/- The kernel's sums over the sixteen blocks are the sums over the 2048 rows. -/
module

public import proofs.«01_k».proof.Proof.Blocks

@[expose] public section

noncomputable section

namespace Cert.Sums

open Idealize.ShloMosaic Cert.RowMath Cert.Inputs Cert.Rows Cert.Tiles Cert.Stores Cert.Ref Cert.Blocks

/-- A sum over the rows, block by block. -/
theorem sum_rows (f : Fin 2048 → EReal) : ∑ n, f n = ∑ q, ∑ r, f (row q r) := by
  rw [← Fintype.sum_prod_type' (fun q r => f (row q r))]
  refine (Fintype.sum_equiv (finProdFinEquiv (m := 16) (n := 128)) _ _ fun p => ?_).symm
  congr 1
  apply Fin.ext
  simp only [row, finProdFinEquiv, Equiv.coe_fn_mk]
  omega

section Block

variable (B : Blk)

/-- The first four rows of the products are sums of dh. -/
theorem prodR_low {k : ℕ} (hk : k < 4) (j : Fin 3072) : prodR B k j = ∑ r, sel B k (fun r => B.h r j * B.sh r) r := by
  unfold prodR
  rw [← Finset.sum_add_distrib]
  refine Finset.sum_congr rfl fun r _ => ?_
  unfold facH facP
  rw [if_pos hk, if_pos hk]
  unfold sel
  split_ifs <;> ring

/-- The last four are sums of dh times the normalized row. -/
theorem prodR_high {k : ℕ} (hk : ¬k < 4) (j : Fin 3072) :
    prodR B k j = ∑ r, sel B k (fun r => B.h r j * B.sh r * xhat Consts.eps (B.x r) (B.sx r) j) r := by
  unfold prodR
  rw [← Finset.sum_add_distrib]
  refine Finset.sum_congr rfl fun r _ => ?_
  unfold facH facP
  rw [if_neg hk, if_neg hk]
  unfold sel
  split_ifs
  · exact (prod_eq ..).symm
  · exact (prod_eq ..).symm
  · ring
  · ring
  · exact (prod_eq ..).symm
  · ring

/-- Every row chosen. -/
theorem sel_all {k : ℕ} (hk : k % 4 = 0) (f : Fin 128 → ℝ) (r : Fin 128) : sel B k f r = f r := by
  unfold sel; rw [if_pos hk]

/-- The rows of the first sample chosen. -/
theorem sel_first {k : ℕ} (hk : k % 4 = 1) (f : Fin 128 → ℝ) (r : Fin 128) :
    ((sel B k f r : ℝ) : EReal) = if B.id r = 0#32 then ((f r : ℝ) : EReal) else 0 := by
  unfold sel; rw [if_neg (by omega), if_pos hk]; split_ifs <;> simp

/-- The rows of the second sample chosen. -/
theorem sel_second {k : ℕ} (hk : k % 4 = 2) (f : Fin 128 → ℝ) (r : Fin 128) (two : B.id r = 0#32 ∨ B.id r = 1#32) :
    ((sel B k f r : ℝ) : EReal) = if B.id r = 1#32 then ((f r : ℝ) : EReal) else 0 := by
  unfold sel; rw [if_neg (by omega), if_neg (by omega), if_pos hk]
  rcases two with h | h <;> rw [h] <;> simp

/-- No row chosen. -/
theorem sel_none {k : ℕ} (hk : k % 4 = 3) (f : Fin 128 → ℝ) (r : Fin 128) : sel B k f r = 0 := by
  unfold sel; rw [if_neg (by omega), if_neg (by omega), if_neg (by omega)]

/-- Rows 3 and 7 of the products are zero. -/
theorem prodR_none {k : ℕ} (hk : k % 4 = 3) (j : Fin 3072) : prodR B k j = 0 := by
  by_cases h : k < 4
  · rw [prodR_low B h]; exact Finset.sum_eq_zero fun r _ => sel_none B hk _ r
  · rw [prodR_high B h]; exact Finset.sum_eq_zero fun r _ => sel_none B hk _ r

end Block

variable (D : Data) (Y : Fin 2048 → Fin 3072 → EReal) (SY : Fin 2048 → EReal) (Fo : Fin 2048 → Fin 3072 → EReal)

/-- What block `q` adds to row `k` of the accumulator. -/
def part (q : Fin 16) (k : Fin 8) (j : Fin 3072) : EReal :=
  ((prodR (blkOf D q) k.val j : ℝ) : EReal)
    + if k.val = 3 then ∑ r, (if D.id (row q r) = 0#32 then Y (row q r) j * SY (row q r) * Fo (row q r) j else 0)
      else if k.val = 7 then ∑ r, (if D.id (row q r) = 0#32 then 0 else Y (row q r) j * SY (row q r) * Fo (row q r) j) else 0

variable {D} (two : ∀ n, D.id n = 0#32 ∨ D.id n = 1#32)
include two

/-- What a block adds, in the row of the accumulator that becomes row `(s, k)` of result 2. -/
theorem part_eq (q : Fin 16) (s : Fin 2) (k : Fin 3) (j : Fin 3072) :
    part D Y SY Fo q (rowOf s.val k.val) j = ∑ r, if D.id (row q r) = BitVec.ofNat 32 s.val then prodOf D Y SY Fo k (row q r) j else 0 := by
  unfold part
  fin_cases s <;> fin_cases k
  · show ((prodR (blkOf D q) 1 j : ℝ) : EReal) + 0 = _
    rw [add_zero, prodR_low _ (by decide), coe_sum]
    exact Finset.sum_congr rfl fun r _ => sel_first _ (by decide) _ r
  · show ((prodR (blkOf D q) 5 j : ℝ) : EReal) + 0 = _
    rw [add_zero, prodR_high _ (by decide), coe_sum]
    exact Finset.sum_congr rfl fun r _ => sel_first _ (by decide) _ r
  · show ((prodR (blkOf D q) 3 j : ℝ) : EReal) + _ = _
    rw [prodR_none _ (by decide), EReal.coe_zero, zero_add]
    rfl
  · show ((prodR (blkOf D q) 2 j : ℝ) : EReal) + 0 = _
    rw [add_zero, prodR_low _ (by decide), coe_sum]
    exact Finset.sum_congr rfl fun r _ => sel_second _ (by decide) _ r (two _)
  · show ((prodR (blkOf D q) 6 j : ℝ) : EReal) + 0 = _
    rw [add_zero, prodR_high _ (by decide), coe_sum]
    exact Finset.sum_congr rfl fun r _ => sel_second _ (by decide) _ r (two _)
  · show ((prodR (blkOf D q) 7 j : ℝ) : EReal) + (∑ r, (if D.id (row q r) = 0#32 then 0 else Y (row q r) j * SY (row q r) * Fo (row q r) j)) = _
    rw [prodR_none _ (by decide), EReal.coe_zero, zero_add]
    refine Finset.sum_congr rfl fun r _ => ?_
    show _ = if D.id (row q r) = 1#32 then Y (row q r) j * SY (row q r) * Fo (row q r) j else 0
    rcases two (row q r) with h | h <;> rw [h] <;> simp

/-- The sixteen blocks together are a sample's sum. -/
theorem parts_eq (s : Fin 2) (k : Fin 3) (j : Fin 3072) :
    ∑ q, part D Y SY Fo q (rowOf s.val k.val) j = dmodOf D Y SY Fo s k j := by
  unfold dmodOf
  rw [sum_rows]
  exact Finset.sum_congr rfl fun q _ => part_eq Y SY Fo two q s k j

omit two in
/-- A block's sums: over all its rows. -/
theorem block_eq (q : Fin 16) (k : Fin 3) (j : Fin 3072) :
    (if k.val = 0 then ((prodR (blkOf D q) 0 j : ℝ) : EReal) else if k.val = 1 then ((prodR (blkOf D q) 4 j : ℝ) : EReal)
      else (∑ r, (if D.id (row q r) = 0#32 then Y (row q r) j * SY (row q r) * Fo (row q r) j else 0))
        + ∑ r, (if D.id (row q r) = 0#32 then 0 else Y (row q r) j * SY (row q r) * Fo (row q r) j)) = dblkOf D Y SY Fo q k j := by
  unfold dblkOf
  fin_cases k
  · show ((prodR (blkOf D q) 0 j : ℝ) : EReal) = _
    rw [prodR_low _ (by decide), coe_sum]
    exact Finset.sum_congr rfl fun r _ => by rw [sel_all _ (by decide)]; rfl
  · show ((prodR (blkOf D q) 4 j : ℝ) : EReal) = _
    rw [prodR_high _ (by decide), coe_sum]
    exact Finset.sum_congr rfl fun r _ => by rw [sel_all _ (by decide)]; rfl
  · show (∑ r, _) + (∑ r, _) = _
    rw [← Finset.sum_add_distrib]
    refine Finset.sum_congr rfl fun r _ => ?_
    show _ = Y (row q r) j * SY (row q r) * Fo (row q r) j
    split_ifs <;> simp

end Cert.Sums
-- ==== Proof.CaseDx.lean ====
module

public import proofs.«01_k».proof.Proof.Cases
public import proofs.«01_k».proof.Proof.Gen.KernelIdeal.Value
public import Idealize.ShloMosaic.Lib.Pipeline.ValueKit.Acc

@[expose] public section

set_option maxRecDepth 100000
set_option maxHeartbeats 4000000

noncomputable section

namespace Cert.Cases

open Cert.KernelIdeal Cert.KernelIdeal.Gen Idealize.ShloMosaic Idealize.ShloMosaic.TcCoe Idealize.SL.Sem Cert.RowMath Cert.Rows Cert.Tiles Cert.Stores

/-! # The gradient block a point leaves -/

variable (m : (ℓ : Loc nD τ sig) → Buf (Elt Ideal) ℓ) (c : Dev nD) (t : Fin cfg0.N)

/-- At the first point, the block of result 1 is `dxArr`. -/
theorem dx_A (h0 : t.val % 16 = 0) (h1 : ¬t.val % 16 = 15) (B : Blk) (H : HoldsAt m c t B (k0_pay7 (iblk m c 4 t))) (hms : ∀ s j, iblk m c 4 t (ix2 s j) = ((B.ms s j : ℝ) : EReal)) (y : S128x3072.Idx) :
    (outsAt0 m c t.val t.isLt).1 y = dxArr B (sy m c t) (iblk m c 7 t) y := by
  rw [outsAt0_A m c t h0 h1]
  frame_open
  simp (disch := decide) only [↓ View.readCov_skip, ↓ View.readCov_cons_toLoadRect, ↓ View.readCov_fill]
  frame_out
  have Hr := raw_A m c t B H
  refine View.canon_apply_of_pieces (dxArr B (sy m c t) (iblk m c 7 t)) _ (View.PiecesOf.mem ?_) y (View.cover_of_tiledL (s := S128x3072) _ S128x128.size (by sl_kernel_rfl) y)
  repeat first | exact trivial | refine cons (fun x => dx_piece H hms (by decide) (by decide) (by decide) x) ?_

/-- At a point in between, the block of result 1 is `dxArr`. -/
theorem dx_B (h0 : ¬t.val % 16 = 0) (h1 : ¬t.val % 16 = 15) (B : Blk) (H : HoldsAt m c t B (before m c t).1) (hms : ∀ s j, iblk m c 4 t (ix2 s j) = ((B.ms s j : ℝ) : EReal)) (y : S128x3072.Idx) :
    (outsAt0 m c t.val t.isLt).1 y = dxArr B (sy m c t) (iblk m c 7 t) y := by
  rw [outsAt0_B m c t h0 h1]
  frame_open
  simp (disch := decide) only [↓ View.readCov_skip, ↓ View.readCov_cons_toLoadRect, ↓ View.readCov_fill]
  frame_out
  have Hr := raw_B m c t B H
  try simp only [read_unread_whole]
  refine View.canon_apply_of_pieces (dxArr B (sy m c t) (iblk m c 7 t)) _ (View.PiecesOf.mem ?_) y (View.cover_of_tiledL (s := S128x3072) _ S128x128.size (by sl_kernel_rfl) y)
  repeat first | exact trivial | refine cons (fun x => dx_piece H hms (by decide) (by decide) (by decide) x) ?_

/-- At the last point, the block of result 1 is `dxArr`. -/
theorem dx_C (h0 : ¬t.val % 16 = 0) (h1 : t.val % 16 = 15) (B : Blk) (H : HoldsAt m c t B (before m c t).1) (hms : ∀ s j, iblk m c 4 t (ix2 s j) = ((B.ms s j : ℝ) : EReal)) (y : S128x3072.Idx) :
    (outsAt0 m c t.val t.isLt).1 y = dxArr B (sy m c t) (iblk m c 7 t) y := by
  rw [outsAt0_C m c t h0 h1]
  frame_open
  simp (disch := decide) only [↓ View.readCov_skip, ↓ View.readCov_cons_toLoadRect, ↓ View.readCov_fill]
  frame_out
  have Hr := raw_B m c t B H
  try simp only [read_unread_whole]
  refine View.canon_apply_of_pieces (dxArr B (sy m c t) (iblk m c 7 t)) _ (View.PiecesOf.mem ?_) y (View.cover_of_tiledL (s := S128x3072) _ S128x128.size (by sl_kernel_rfl) y)
  repeat first | exact trivial | refine cons (fun x => dx_piece H hms (by decide) (by decide) (by decide) x) ?_

end Cert.Cases
-- ==== Proof.CaseSum.lean ====
module

public import proofs.«01_k».proof.Proof.Cases
public import proofs.«01_k».proof.Proof.Gen.KernelIdeal.Value
public import Idealize.ShloMosaic.Lib.Pipeline.ValueKit.Acc

@[expose] public section

set_option maxRecDepth 100000
set_option maxHeartbeats 4000000

noncomputable section

namespace Cert.Cases

open Cert.KernelIdeal Cert.KernelIdeal.Gen Idealize.ShloMosaic Idealize.ShloMosaic.TcCoe Idealize.SL.Sem Cert.RowMath Cert.Rows Cert.Tiles Cert.Stores

/-! # The block sums a point leaves -/

variable (m : (ℓ : Loc nD τ sig) → Buf (Elt Ideal) ℓ) (c : Dev nD) (t : Fin cfg0.N)

/-- At the first point, the block of result 3 is `sumArr`. -/
theorem sum_A (h0 : t.val % 16 = 0) (h1 : ¬t.val % 16 = 15) (B : Blk) (H : HoldsAt m c t B (k0_pay7 (iblk m c 4 t))) (y : S1x3x3072.Idx) :
    (outsAt0 m c t.val t.isLt).2.2.1 y = sumArr B (sy m c t) (iblk m c 7 t) (iblk m c 6 t) y := by
  rw [outsAt0_A m c t h0 h1]
  frame_open
  simp (disch := decide) only [↓ View.readCov_skip, ↓ View.readCov_cons_toLoadRect, ↓ View.readCov_fill]
  frame_out
  have Hr := raw_A m c t B H
  refine View.canon_apply_of_pieces (sumArr B (sy m c t) (iblk m c 7 t) (iblk m c 6 t)) _ (View.PiecesOf.mem ?_) y (View.cover_of_tiledBy (s := S1x3x3072) _ ![1, 1, 128] (by sl_kernel_rfl) y)
  iterate 24 refine cons (fun x => sum2_piece H _ (by decide) x) ?_
  iterate 12 (refine cons (fun x => sum1_store Hr (by decide) (by sl_kernel_rfl) (by decide) x) ?_; refine cons (fun x => sum0_store Hr (by decide) (by sl_kernel_rfl) (by decide) x) ?_)
  exact trivial

/-- At a point in between, the block of result 3 is `sumArr`. -/
theorem sum_B (h0 : ¬t.val % 16 = 0) (h1 : ¬t.val % 16 = 15) (B : Blk) (H : HoldsAt m c t B (before m c t).1) (y : S1x3x3072.Idx) :
    (outsAt0 m c t.val t.isLt).2.2.1 y = sumArr B (sy m c t) (iblk m c 7 t) (iblk m c 6 t) y := by
  rw [outsAt0_B m c t h0 h1]
  frame_open
  simp (disch := decide) only [↓ View.readCov_skip, ↓ View.readCov_cons_toLoadRect, ↓ View.readCov_fill]
  frame_out
  have Hr := raw_B m c t B H
  try simp only [read_unread_whole]
  refine View.canon_apply_of_pieces (sumArr B (sy m c t) (iblk m c 7 t) (iblk m c 6 t)) _ (View.PiecesOf.mem ?_) y (View.cover_of_tiledBy (s := S1x3x3072) _ ![1, 1, 128] (by sl_kernel_rfl) y)
  iterate 24 refine cons (fun x => sum2_piece H _ (by decide) x) ?_
  iterate 12 (refine cons (fun x => sum1_store Hr (by decide) (by sl_kernel_rfl) (by decide) x) ?_; refine cons (fun x => sum0_store Hr (by decide) (by sl_kernel_rfl) (by decide) x) ?_)
  exact trivial

/-- At the last point, the block of result 3 is `sumArr`. -/
theorem sum_C (h0 : ¬t.val % 16 = 0) (h1 : t.val % 16 = 15) (B : Blk) (H : HoldsAt m c t B (before m c t).1) (y : S1x3x3072.Idx) :
    (outsAt0 m c t.val t.isLt).2.2.1 y = sumArr B (sy m c t) (iblk m c 7 t) (iblk m c 6 t) y := by
  rw [outsAt0_C m c t h0 h1]
  frame_open
  simp (disch := decide) only [↓ View.readCov_skip, ↓ View.readCov_cons_toLoadRect, ↓ View.readCov_fill]
  frame_out
  have Hr := raw_B m c t B H
  try simp only [read_unread_whole]
  refine View.canon_apply_of_pieces (sumArr B (sy m c t) (iblk m c 7 t) (iblk m c 6 t)) _ (View.PiecesOf.mem ?_) y (View.cover_of_tiledBy (s := S1x3x3072) _ ![1, 1, 128] (by sl_kernel_rfl) y)
  iterate 24 refine cons (fun x => sum2_piece H _ (by decide) x) ?_
  iterate 12 (refine cons (fun x => sum1_store Hr (by decide) (by sl_kernel_rfl) (by decide) x) ?_; refine cons (fun x => sum0_store Hr (by decide) (by sl_kernel_rfl) (by decide) x) ?_)
  exact trivial

end Cert.Cases
-- ==== Proof.CaseAcc.lean ====
module

public import proofs.«01_k».proof.Proof.Cases
public import proofs.«01_k».proof.Proof.Gen.KernelIdeal.Value
public import Idealize.ShloMosaic.Lib.Pipeline.ValueKit.Acc

@[expose] public section

set_option maxRecDepth 100000
set_option maxHeartbeats 4000000

noncomputable section

namespace Cert.Cases

open Cert.KernelIdeal Cert.KernelIdeal.Gen Idealize.ShloMosaic Idealize.ShloMosaic.TcCoe Idealize.SL.Sem Cert.RowMath Cert.Rows Cert.Tiles Cert.Stores

/-! # The carried buffers after a point -/

variable (m : (ℓ : Loc nD τ sig) → Buf (Elt Ideal) ℓ) (c : Dev nD) (t : Fin cfg0.N)

/-- After the first point, the carried weights are those made from the scale rows. -/
theorem wl_A (h0 : t.val % 16 = 0) (h1 : ¬t.val % 16 = 15) : (outsAt0 m c t.val t.isLt).2.2.2.1 = (k0_pay7 (iblk m c 4 t)) := by
  rw [outsAt0_A m c t h0 h1]
  frame_open
  simp (disch := decide) only [↓ View.readCov_skip, ↓ View.readCov_cons_toLoadRect, ↓ View.readCov_fill]
  funext y
  frame_out

/-- After a point in between, the carried weights are the ones before. -/
theorem wl_B (h0 : ¬t.val % 16 = 0) (h1 : ¬t.val % 16 = 15) : (outsAt0 m c t.val t.isLt).2.2.2.1 = (before m c t).1 := by
  rw [outsAt0_B m c t h0 h1]
  frame_open
  funext y
  unfold sout0_B_0
  rfl

/-- After the first point, the carried sums are the ones before with the sums of the block added. -/
theorem acc_A (h0 : t.val % 16 = 0) (h1 : ¬t.val % 16 = 15) (B : Blk) (H : HoldsAt m c t B (k0_pay7 (iblk m c 4 t))) (y : S8x3072.Idx) :
    (outsAt0 m c t.val t.isLt).2.2.2.2 y = accArr B (sy m c t) (iblk m c 7 t) (iblk m c 6 t) (k0_pay8 (F := Ideal)) y := by
  rw [outsAt0_A m c t h0 h1]
  frame_open
  simp (disch := decide) only [↓ View.readCov_skip, ↓ View.readCov_cons_toLoadRect, ↓ View.readCov_fill]
  frame_out
  have Hr := raw_A m c t B H
  refine canon_acc (k0_pay8 (F := Ideal)) _ (canon_tiles _ _ ?_ (by sl_kernel_rfl)) ?_ (by sl_kernel_rfl) (by sl_kernel_rfl) (by sl_kernel_rfl) y
  · repeat first | exact trivial | refine take_cons (fun x => acc_store Hr (by decide) (by sl_kernel_rfl) _ (by decide) x) ?_
  · (iterate 24 (refine take_cons (fun x => row7_store H _ (k0_pay8 (F := Ideal)) (by decide) _ _ _ (by decide) (by intro z; exact acc_store Hr (by decide) (by sl_kernel_rfl) _ (by decide) z) (by decide) (by decide) x) ?_; refine take_cons (fun x => row3_store H _ (k0_pay8 (F := Ideal)) (by decide) _ _ _ (by decide) (by intro z; exact acc_store Hr (by decide) (by sl_kernel_rfl) _ (by decide) z) (by decide) (by decide) x) ?_))
    exact trivial

/-- After a point in between, the carried sums are the ones before with the sums of the block added. -/
theorem acc_B (h0 : ¬t.val % 16 = 0) (h1 : ¬t.val % 16 = 15) (B : Blk) (H : HoldsAt m c t B (before m c t).1) (y : S8x3072.Idx) :
    (outsAt0 m c t.val t.isLt).2.2.2.2 y = accArr B (sy m c t) (iblk m c 7 t) (iblk m c 6 t) (before m c t).2 y := by
  rw [outsAt0_B m c t h0 h1]
  frame_open
  simp (disch := decide) only [↓ View.readCov_skip, ↓ View.readCov_cons_toLoadRect, ↓ View.readCov_fill]
  frame_out
  have Hr := raw_B m c t B H
  try simp only [read_unread_whole]
  refine canon_acc (before m c t).2 _ (canon_tiles _ _ ?_ (by sl_kernel_rfl)) ?_ (by sl_kernel_rfl) (by sl_kernel_rfl) (by sl_kernel_rfl) y
  · repeat first | exact trivial | refine take_cons (fun x => acc_store Hr (by decide) (by sl_kernel_rfl) _ (by decide) x) ?_
  · (iterate 24 (refine take_cons (fun x => row7_store H _ (before m c t).2 (by decide) _ _ _ (by decide) (by intro z; exact acc_store Hr (by decide) (by sl_kernel_rfl) _ (by decide) z) (by decide) (by decide) x) ?_; refine take_cons (fun x => row3_store H _ (before m c t).2 (by decide) _ _ _ (by decide) (by intro z; exact acc_store Hr (by decide) (by sl_kernel_rfl) _ (by decide) z) (by decide) (by decide) x) ?_))
    exact trivial

end Cert.Cases
-- ==== Proof.CaseDmod.lean ====
module

public import proofs.«01_k».proof.Proof.Cases
public import proofs.«01_k».proof.Proof.Gen.KernelIdeal.Value
public import Idealize.ShloMosaic.Lib.Pipeline.ValueKit.Acc

@[expose] public section

set_option maxRecDepth 100000
set_option maxHeartbeats 4000000

noncomputable section

namespace Cert.Cases

open Cert.KernelIdeal Cert.KernelIdeal.Gen Idealize.ShloMosaic Idealize.ShloMosaic.TcCoe Idealize.SL.Sem Cert.RowMath Cert.Rows Cert.Tiles Cert.Stores

/-! # The last point writes result 2 -/

variable (m : (ℓ : Loc nD τ sig) → Buf (Elt Ideal) ℓ) (c : Dev nD) (t : Fin cfg0.N)

/-- At the last point, result 2 is the eight sums, rearranged. -/
theorem dmod_C (h0 : ¬t.val % 16 = 0) (h1 : t.val % 16 = 15) (B : Blk) (H : HoldsAt m c t B (before m c t).1) (y : S2x3x3072.Idx) :
    (outsAt0 m c t.val t.isLt).2.1 y = dmodArr (accArr B (sy m c t) (iblk m c 7 t) (iblk m c 6 t) (before m c t).2) y := by
  rw [outsAt0_C m c t h0 h1]
  frame_open
  simp (disch := decide) only [↓ View.readCov_skip, ↓ View.readCov_cons_toLoadRect, ↓ View.readCov_fill]
  frame_out
  have Hr := raw_B m c t B H
  try simp only [read_unread_whole]
  refine View.canon_apply_of_pieces (dmodArr (accArr B (sy m c t) (iblk m c 7 t) (iblk m c 6 t) (before m c t).2)) _ (View.PiecesOf.mem ?_) y (View.cover_of_tiledL (s := S2x3x3072) _ S1x1x3072.size (by sl_kernel_rfl) y)
  refine dmod_cons k0_pay6 rfl 7 1 2 rfl (accArr B (sy m c t) (iblk m c 7 t) (iblk m c 6 t) (before m c t).2) (fun q => ?_) ?_
  · exact gate_row 48 (before m c t).2 _ 7 (by decide) (by (iterate 24 (refine take_cons (fun x => row7_store H _ (before m c t).2 (by decide) _ _ _ (by decide) (by intro z; exact acc_store Hr (by decide) (by sl_kernel_rfl) _ (by decide) z) (by decide) (by decide) x) ?_; refine take_cons (fun x => row3_store H _ (before m c t).2 (by decide) _ _ _ (by decide) (by intro z; exact acc_store Hr (by decide) (by sl_kernel_rfl) _ (by decide) z) (by decide) (by decide) x) ?_)); exact trivial) (by sl_kernel_rfl) q
  refine dmod_cons k0_pay5 rfl 6 1 1 rfl (accArr B (sy m c t) (iblk m c 7 t) (iblk m c 6 t) (before m c t).2) (fun q => ?_) ?_
  · refine tiles_row (before m c t).2 _ ?_ (by sl_kernel_rfl) 6 (by decide) (by decide) q
    iterate 12 refine take_cons (fun x => acc_store Hr (by decide) (by sl_kernel_rfl) (before m c t).2 (by decide) x) ?_
    exact trivial
  refine dmod_cons k0_pay4 rfl 2 1 0 rfl (accArr B (sy m c t) (iblk m c 7 t) (iblk m c 6 t) (before m c t).2) (fun q => ?_) ?_
  · refine tiles_row (before m c t).2 _ ?_ (by sl_kernel_rfl) 2 (by decide) (by decide) q
    iterate 12 refine take_cons (fun x => acc_store Hr (by decide) (by sl_kernel_rfl) (before m c t).2 (by decide) x) ?_
    exact trivial
  refine dmod_cons k0_pay3 rfl 3 0 2 rfl (accArr B (sy m c t) (iblk m c 7 t) (iblk m c 6 t) (before m c t).2) (fun q => ?_) ?_
  · exact gate_row 47 (before m c t).2 _ 3 (by decide) (by refine take_cons (fun x => row3_store H _ (before m c t).2 (by decide) _ _ _ (by decide) (by intro z; exact acc_store Hr (by decide) (by sl_kernel_rfl) _ (by decide) z) (by decide) (by decide) x) ?_; (iterate 23 (refine take_cons (fun x => row7_store H _ (before m c t).2 (by decide) _ _ _ (by decide) (by intro z; exact acc_store Hr (by decide) (by sl_kernel_rfl) _ (by decide) z) (by decide) (by decide) x) ?_; refine take_cons (fun x => row3_store H _ (before m c t).2 (by decide) _ _ _ (by decide) (by intro z; exact acc_store Hr (by decide) (by sl_kernel_rfl) _ (by decide) z) (by decide) (by decide) x) ?_)); exact trivial) (by sl_kernel_rfl) q
  refine dmod_cons k0_pay2 rfl 5 0 1 rfl (accArr B (sy m c t) (iblk m c 7 t) (iblk m c 6 t) (before m c t).2) (fun q => ?_) ?_
  · refine tiles_row (before m c t).2 _ ?_ (by sl_kernel_rfl) 5 (by decide) (by decide) q
    iterate 12 refine take_cons (fun x => acc_store Hr (by decide) (by sl_kernel_rfl) (before m c t).2 (by decide) x) ?_
    exact trivial
  refine dmod_cons k0_pay1 rfl 1 0 0 rfl (accArr B (sy m c t) (iblk m c 7 t) (iblk m c 6 t) (before m c t).2) (fun q => ?_) ?_
  · refine tiles_row (before m c t).2 _ ?_ (by sl_kernel_rfl) 1 (by decide) (by decide) q
    iterate 12 refine take_cons (fun x => acc_store Hr (by decide) (by sl_kernel_rfl) (before m c t).2 (by decide) x) ?_
    exact trivial
  exact trivial

end Cert.Cases
-- ==== Proof.PointRun.lean ====
/- What each point of the kernel leaves, from the arguments it is run on. -/
module

public import proofs.«01_k».proof.Proof.Sums
public import proofs.«01_k».proof.Proof.CaseDx
public import proofs.«01_k».proof.Proof.CaseSum
public import proofs.«01_k».proof.Proof.CaseAcc
public import proofs.«01_k».proof.Proof.CaseDmod

@[expose] public section

set_option maxRecDepth 16384

noncomputable section

namespace Cert.PointRun

open Cert.KernelIdeal Cert.KernelIdeal.Gen Cert.KernelIdeal.Value Idealize.ShloMosaic Idealize.ShloMosaic.TcCoe Idealize.SL.Sem
open Cert.RowMath Cert.Inputs Cert.Rows Cert.Tiles Cert.Stores Cert.Ref Cert.Cases Cert.Blocks Cert.Sums

variable (m : (ℓ : Loc nD τ sig) → Buf (Elt Ideal) ℓ) (c : Dev nD)

/-- A grid point's number is below sixteen. -/
theorem lt16 (t : Fin cfg0.N) : t.val < 16 := lt_of_lt_of_eq t.isLt N_0

variable {D : Data} (hD : StandsAt m c D)
include hD

/-- The weights carried out of every point but the last are right. -/
theorem weights : ∀ (n : ℕ) (hn : n < cfg0.N), n < 15 → ∀ k j,
    (outsAt0 m c n hn).2.2.2.1 (ix2 k j) = ((lhsRow D.ms k j : ℝ) : EReal)
  | 0, hn, _, k, j => by
    have e := wl_A m c ⟨0, hn⟩ (by simp) (by simp)
    rw [show (outsAt0 m c 0 hn).2.2.2.1 = _ from e]
    exact pay7_apply D.ms _ (ms_eq m c ⟨0, hn⟩ hD) k j
  | n + 1, hn, h, k, j => by
    have e := wl_B m c ⟨n + 1, hn⟩ (by simp only; omega) (by simp only; omega)
    rw [show (outsAt0 m c (n + 1) hn).2.2.2.1 = _ from e]
    exact weights n (Nat.lt_of_succ_lt hn) (by omega) k j

/-- The weights made at the first point are right. -/
theorem holds_first (t : Fin cfg0.N) : HoldsAt m c t (blkOf D (pt t)) (k0_pay7 (iblk m c 4 t)) :=
  holds m c t hD _ fun k j => pay7_apply D.ms _ (ms_eq m c t hD) k j

/-- The weights found at a later point are right. -/
theorem holds_later (t : Fin cfg0.N) (h0 : ¬t.val % 16 = 0) : HoldsAt m c t (blkOf D (pt t)) (before m c t).1 :=
  holds m c t hD _ fun k j => weights m c hD (t.val - 1) _ (by have := lt16 t; omega) k j

/-- The block of result 1 a point leaves. -/
theorem dx_at (t : Fin cfg0.N) (r : Fin 128) (j : Fin 3072) :
    (outsAt0 m c t.val t.isLt).1 (ix2 r j) = dxOf D (dyAt m c) (dysAt m c) (row (pt t) r) j := by
  have e : ∀ y, (outsAt0 m c t.val t.isLt).1 y = dxArr (blkOf D (pt t)) (sy m c t) (iblk m c 7 t) y := fun y => by
    by_cases h0 : t.val % 16 = 0
    · exact dx_A m c t h0 (by omega) _ (holds_first m c hD t) (ms_eq m c t hD) y
    · by_cases h1 : t.val % 16 = 15
      · exact dx_C m c t h0 h1 _ (holds_later m c hD t h0) (ms_eq m c t hD) y
      · exact dx_B m c t h0 h1 _ (holds_later m c hD t h0) (ms_eq m c t hD) y
  rw [e]
  show dxE (blkOf D (pt t)) (sy m c t) (iblk m c 7 t) r j = _
  unfold dxE dxOf
  rw [grad_eq, sy_eq, dy_eq]
  rfl

omit hD in
/-- A block's sum for the gate over the first sample, from the arguments. -/
theorem gate0_eq (t : Fin cfg0.N) (j : Fin 3072) : gate0 (blkOf D (pt t)) (sy m c t) (iblk m c 7 t) (iblk m c 6 t) j
    = ∑ r, (if D.id (row (pt t) r) = 0#32 then dyAt m c (row (pt t) r) j * dysAt m c (row (pt t) r) * fAt m c (row (pt t) r) j else 0) := by
  unfold gate0
  refine Finset.sum_congr rfl fun r _ => ?_
  rw [← sy_eq, ← dy_eq, ← f_eq]
  rfl

omit hD in
/-- The same over the other rows. -/
theorem gate1_eq (t : Fin cfg0.N) (j : Fin 3072) : gate1 (blkOf D (pt t)) (sy m c t) (iblk m c 7 t) (iblk m c 6 t) j
    = ∑ r, (if D.id (row (pt t) r) = 0#32 then 0 else dyAt m c (row (pt t) r) j * dysAt m c (row (pt t) r) * fAt m c (row (pt t) r) j) := by
  unfold gate1
  refine Finset.sum_congr rfl fun r _ => ?_
  rw [← sy_eq, ← dy_eq, ← f_eq]
  rfl

/-- The block of result 3 a point leaves. -/
theorem dblk_at (t : Fin cfg0.N) (z : Fin 1) (k : Fin 3) (j : Fin 3072) :
    (outsAt0 m c t.val t.isLt).2.2.1 (ix3 z k j) = dblkOf D (dyAt m c) (dysAt m c) (fAt m c) (pt t) k j := by
  have e : ∀ y, (outsAt0 m c t.val t.isLt).2.2.1 y = sumArr (blkOf D (pt t)) (sy m c t) (iblk m c 7 t) (iblk m c 6 t) y := fun y => by
    by_cases h0 : t.val % 16 = 0
    · exact sum_A m c t h0 (by omega) _ (holds_first m c hD t) y
    · by_cases h1 : t.val % 16 = 15
      · exact sum_C m c t h0 h1 _ (holds_later m c hD t h0) y
      · exact sum_B m c t h0 h1 _ (holds_later m c hD t h0) y
  rw [e, ← block_eq, ← gate0_eq, ← gate1_eq]
  rfl

omit hD in
/-- What a point adds to the accumulator, from the arguments. -/
theorem acc_eq (t : Fin cfg0.N) (Z : Vec Ideal S8x3072 .f32) (k : Fin 8) (j : Fin 3072) :
    accArr (blkOf D (pt t)) (sy m c t) (iblk m c 7 t) (iblk m c 6 t) Z (ix2 k j)
      = Z (ix2 k j) + part D (dyAt m c) (dysAt m c) (fAt m c) (pt t) k j := by
  unfold accArr part
  rw [add_assoc, ← gate0_eq, ← gate1_eq]
  rfl

/-- The accumulator carried out of every point but the last is the sum of what the points so far added. -/
theorem acc_at : ∀ (n : ℕ) (hn : n < cfg0.N), n < 15 → ∀ k j,
    (outsAt0 m c n hn).2.2.2.2 (ix2 k j)
      = ∑ q ∈ Finset.range (n + 1), part D (dyAt m c) (dysAt m c) (fAt m c) ⟨q % 16, Nat.mod_lt _ (by decide)⟩ k j
  | 0, hn, _, k, j => by
    have e := acc_A m c ⟨0, hn⟩ (by simp) (by simp) _ (holds_first m c hD _) (ix2 k j)
    rw [show (outsAt0 m c 0 hn).2.2.2.2 (ix2 k j) = _ from e, acc_eq, Finset.sum_range_one,
      show k0_pay8 (F := Ideal) (ix2 k j) = 0 from by pointwise [k0_pay8], zero_add]
  | n + 1, hn, h, k, j => by
    have h0 : ¬(⟨n + 1, hn⟩ : Fin cfg0.N).val % 16 = 0 := by simp only; omega
    have e := acc_B m c ⟨n + 1, hn⟩ h0 (by simp only; omega) _ (holds_later m c hD _ h0) (ix2 k j)
    rw [show (outsAt0 m c (n + 1) hn).2.2.2.2 (ix2 k j) = _ from e, acc_eq, Finset.sum_range_succ]
    refine congrArg₂ (· + ·) (acc_at n (Nat.lt_of_succ_lt hn) (by omega) k j) ?_
    congr 1
    apply Fin.ext
    show n + 1 = (n + 1) % 16
    omega

end Cert.PointRun
-- ==== Proof.KRun.lean ====
/- The kernel's three results, from the arguments it is run on. -/
module

public import proofs.«01_k».proof.Proof.PointRun

@[expose] public section

set_option maxRecDepth 16384

noncomputable section

namespace Cert.KRun

open Cert.KernelIdeal Cert.KernelIdeal.Gen Cert.KernelIdeal.Value Idealize.ShloMosaic Idealize.ShloMosaic.TcCoe Idealize.SL.Sem
open Cert.RowMath Cert.Inputs Cert.Rows Cert.Tiles Cert.Stores Cert.Ref Cert.Cases Cert.Blocks Cert.Sums Cert.PointRun

variable (m : (ℓ : Loc nD τ sig) → Buf (Elt Ideal) ℓ) (c : Dev nD) {D : Data} (hD : StandsAt m c D)
include hD

/-- Result 2, as the last point leaves it. -/
theorem dmod_at (t : Fin cfg0.N) (h1 : t.val % 16 = 15) (s : Fin 2) (k : Fin 3) (j : Fin 3072) :
    (outsAt0 m c t.val t.isLt).2.1 (ix3 s k j) = dmodOf D (dyAt m c) (dysAt m c) (fAt m c) s k j := by
  have ht := lt16 t
  have h0 : ¬t.val % 16 = 0 := by omega
  have ha : (before m c t).2 (ix2 (rowOf s.val k.val) j) = _ := acc_at m c hD (t.val - 1) _ (by omega) (rowOf s.val k.val) j
  rw [dmod_C m c t h0 h1 _ (holds_later m c hD t h0) (ix3 s k j)]
  show accArr (blkOf D (pt t)) (sy m c t) (iblk m c 7 t) (iblk m c 6 t) (before m c t).2 (ix2 (rowOf s.val k.val) j) = _
  rw [acc_eq, ← parts_eq _ _ _ hD.two, Fin.sum_univ_castSucc, ha, show t.val - 1 + 1 = 15 by omega, Finset.sum_range]
  have hl : pt t = Fin.last 15 := Fin.ext (show t.val = 15 by omega)
  have hq : ∀ q : Fin 15, (⟨q.val % 16, Nat.mod_lt _ (by decide)⟩ : Fin 16) = q.castSucc := fun q =>
    Fin.ext (show q.val % 16 = q.val by have := q.isLt; omega)
  rw [hl]
  simp only [hq]

/-! ## The result arrays -/

/-- Result 1 of the kernel. -/
theorem G9_eq : G9 m c = dxRes D (dyAt m c) (dysAt m c) := by
  funext i
  have hi0 : (i 0).val < 2048 := (i 0).isLt
  have hi1 : (i 1).val < 3072 := (i 1).isLt
  have hp : pt9Of i = (i 0).val / 128 := by unfold pt9Of run9Of; omega
  have h : pt9Of i < cfg0.N := lt_of_lt_of_eq (by omega) N_0.symm
  unfold G9
  rw [dif_pos h, ← outsAt0_sweep m c (pt9Of i) h]
  have el : loc9Of i = ix2 ⟨(i 0).val % 128, Nat.mod_lt _ (by decide)⟩ ⟨(i 1).val % 3072, Nat.mod_lt _ (by decide)⟩ := by
    funext a; fin_cases a <;> rfl
  rw [el, show (outsAt0 m c (pt9Of i) h).1 (ix2 _ _) = _ from dx_at m c hD ⟨pt9Of i, h⟩ _ _]
  show dxOf D _ _ _ _ = dxOf D _ _ (i 0) (i 1)
  congr 1
  · apply Fin.ext
    show pt9Of i * 128 + (i 0).val % 128 = (i 0).val
    omega
  · apply Fin.ext
    show (i 1).val % 3072 = (i 1).val
    omega

/-- Result 2 of the kernel. -/
theorem G10_eq : G10 m c = dmodRes (dmodOf D (dyAt m c) (dysAt m c) (fAt m c)) := by
  funext y
  rw [G10_last, ← outsAt0_sweep m c 15 (lt_of_lt_of_eq (by decide) N_0.symm)]
  have el : y = ix3 (y 0) (y 1) (y 2) := by funext a; fin_cases a <;> rfl
  rw [el]
  exact dmod_at m c hD ⟨15, lt_of_lt_of_eq (by decide) N_0.symm⟩ (by simp only) (y 0) (y 1) (y 2)

/-- Result 3 of the kernel. -/
theorem G11_eq : G11 m c = dblkRes (dblkOf D (dyAt m c) (dysAt m c) (fAt m c)) := by
  funext i
  have hi0 : (i 0).val < 16 := (i 0).isLt
  have hi1 : (i 1).val < 3 := (i 1).isLt
  have hi2 : (i 2).val < 3072 := (i 2).isLt
  have hp : pt11Of i = (i 0).val := by unfold pt11Of run11Of; omega
  have h : pt11Of i < cfg0.N := lt_of_lt_of_eq (by omega) N_0.symm
  unfold G11
  rw [dif_pos h, ← outsAt0_sweep m c (pt11Of i) h]
  have el : loc11Of i = ix3 ⟨(i 0).val % 1, Nat.mod_lt _ (by decide)⟩ ⟨(i 1).val % 3, Nat.mod_lt _ (by decide)⟩
      ⟨(i 2).val % 3072, Nat.mod_lt _ (by decide)⟩ := by
    funext a; fin_cases a <;> rfl
  rw [el, show (outsAt0 m c (pt11Of i) h).2.2.1 (ix3 _ _ _) = _ from dblk_at m c hD ⟨pt11Of i, h⟩ _ _ _]
  show dblkOf D _ _ _ _ _ _ = dblkOf D _ _ _ (i 0) (i 1) (i 2)
  congr 1
  · apply Fin.ext
    show pt11Of i = (i 0).val
    omega
  · apply Fin.ext
    show (i 1).val % 3 = (i 1).val
    omega
  · apply Fin.ext
    show (i 2).val % 3072 = (i 2).val
    omega

end Cert.KRun
-- ==== Proof.RefRun.lean ====
/- The reference's three results, from the arguments it is run on. -/
module

public import proofs.«01_k».proof.Proof.Ref
public import proofs.«01_k».proof.Proof.Gen.ReferenceIdeal.Value
public import Idealize.ShloMosaic.Lib.StableHlo.ReadAt

@[expose] public section

set_option maxRecDepth 16384

noncomputable section

namespace Cert.RefRun

open Cert.ReferenceIdeal Cert.ReferenceIdeal.Gen Idealize.ShloMosaic Idealize.ShloMosaic.TcCoe Idealize.SL.Sem
open Cert.Inputs Cert.Ref

variable (m : (ℓ : Loc nD τ sig) → Buf (Elt Ideal) ℓ) (c : Dev nD) (t : Fin cfg0.N)

/-! ## The arrays the reference is launched on -/

/-- The codes of argument 0, read as numbers. -/
theorem V_v0 (i : S2048x3072.Idx) : V m c main_v0 i = Ideal.ofBits .fp8e4m3 (m ((c : Thread nD τ).loc main_arg0) i) := by
  unfold V
  after_reads_at

/-- The codes of argument 5, read as numbers. -/
theorem V_v1 (i : S2048x3072.Idx) : V m c main_v1 i = Ideal.ofBits .fp8e5m2 (m ((c : Thread nD τ).loc main_arg5) i) := by
  unfold V
  after_reads_at

/-- Argument 1 as a column. -/
theorem V_v2 (n : Fin 2048) : V m c main_v2 (ix2 n 0) = m ((c : Thread nD τ).loc main_arg1) (ix1 n) := by
  unfold V
  after_reads_at

/-- Argument 4 as a column. -/
theorem V_v3 (n : Fin 2048) : V m c main_v3 (ix2 n 0) = m ((c : Thread nD τ).loc main_arg4) (ix1 n) := by
  unfold V
  after_reads_at

/-- Argument 6 as a column. -/
theorem V_v4 (n : Fin 2048) : V m c main_v4 (ix2 n 0) = m ((c : Thread nD τ).loc main_arg6) (ix1 n) := by
  unfold V
  after_reads_at

/-- Argument 7 as a column. -/
theorem V_v5 (n : Fin 2048) : V m c main_v5 (ix2 n 0) = m ((c : Thread nD τ).loc main_arg7) (ix1 n) := by
  unfold V
  after_reads_at

/-- The only grid point. -/
abbrev first : Fin cfg0.N := ⟨0, by decide⟩

/-! ## The one block of each window is its array -/

/-- Block 0. -/
theorem blk0 (n : Fin 2048) (j : Fin 3072) : iblk m c 0 t (ix2 n j) = V m c main_v0 (ix2 n j) := by
  unfold iblk
  rw [View.read_apply]
  show V m c main_v0 _ = _
  congr 1
  funext a
  obtain ⟨h0, h1⟩ := (by decide +kernel : ∀ t : Fin grid0.N, win0_0.index t 0 = 0 ∧ win0_0.index t 1 = 0) t
  match a with
  | ⟨0, _⟩ => apply Fin.ext; show win0_0.index t 0 * 2048 + 1 * n.val = n.val; rw [h0]; omega
  | ⟨1, _⟩ => apply Fin.ext; show win0_0.index t 1 * 3072 + 1 * j.val = j.val; rw [h1]; omega

/-- Block 1. -/
theorem blk1 (n : Fin 2048) (j : Fin 1) : iblk m c 1 t (ix2 n j) = V m c main_v2 (ix2 n j) := by
  unfold iblk
  rw [View.read_apply]
  show V m c main_v2 _ = _
  congr 1
  funext a
  obtain ⟨h0, h1⟩ := (by decide +kernel : ∀ t : Fin grid0.N, win0_1.index t 0 = 0 ∧ win0_1.index t 1 = 0) t
  match a with
  | ⟨0, _⟩ => apply Fin.ext; show win0_1.index t 0 * 2048 + 1 * n.val = n.val; rw [h0]; omega
  | ⟨1, _⟩ => apply Fin.ext; show win0_1.index t 1 * 1 + 1 * j.val = j.val; rw [h1]; omega

/-- Block 2. -/
theorem blk2 (n : Fin 2048) (j : Fin 3072) : iblk m c 2 t (ix2 n j) = V m c main_arg2 (ix2 n j) := by
  unfold iblk
  rw [View.read_apply]
  show V m c main_arg2 _ = _
  congr 1
  funext a
  obtain ⟨h0, h1⟩ := (by decide +kernel : ∀ t : Fin grid0.N, win0_2.index t 0 = 0 ∧ win0_2.index t 1 = 0) t
  match a with
  | ⟨0, _⟩ => apply Fin.ext; show win0_2.index t 0 * 2048 + 1 * n.val = n.val; rw [h0]; omega
  | ⟨1, _⟩ => apply Fin.ext; show win0_2.index t 1 * 3072 + 1 * j.val = j.val; rw [h1]; omega

/-- Block 3. -/
theorem blk3 (n : Fin 2048) (j : Fin 3072) : iblk m c 3 t (ix2 n j) = V m c main_arg3 (ix2 n j) := by
  unfold iblk
  rw [View.read_apply]
  show V m c main_arg3 _ = _
  congr 1
  funext a
  obtain ⟨h0, h1⟩ := (by decide +kernel : ∀ t : Fin grid0.N, win0_3.index t 0 = 0 ∧ win0_3.index t 1 = 0) t
  match a with
  | ⟨0, _⟩ => apply Fin.ext; show win0_3.index t 0 * 2048 + 1 * n.val = n.val; rw [h0]; omega
  | ⟨1, _⟩ => apply Fin.ext; show win0_3.index t 1 * 3072 + 1 * j.val = j.val; rw [h1]; omega

/-- Block 4. -/
theorem blk4 (n : Fin 2048) (j : Fin 1) : iblk m c 4 t (ix2 n j) = V m c main_v3 (ix2 n j) := by
  unfold iblk
  rw [View.read_apply]
  show V m c main_v3 _ = _
  congr 1
  funext a
  obtain ⟨h0, h1⟩ := (by decide +kernel : ∀ t : Fin grid0.N, win0_4.index t 0 = 0 ∧ win0_4.index t 1 = 0) t
  match a with
  | ⟨0, _⟩ => apply Fin.ext; show win0_4.index t 0 * 2048 + 1 * n.val = n.val; rw [h0]; omega
  | ⟨1, _⟩ => apply Fin.ext; show win0_4.index t 1 * 1 + 1 * j.val = j.val; rw [h1]; omega

/-- Block 5. -/
theorem blk5 (n : Fin 2048) (j : Fin 3072) : iblk m c 5 t (ix2 n j) = V m c main_v1 (ix2 n j) := by
  unfold iblk
  rw [View.read_apply]
  show V m c main_v1 _ = _
  congr 1
  funext a
  obtain ⟨h0, h1⟩ := (by decide +kernel : ∀ t : Fin grid0.N, win0_5.index t 0 = 0 ∧ win0_5.index t 1 = 0) t
  match a with
  | ⟨0, _⟩ => apply Fin.ext; show win0_5.index t 0 * 2048 + 1 * n.val = n.val; rw [h0]; omega
  | ⟨1, _⟩ => apply Fin.ext; show win0_5.index t 1 * 3072 + 1 * j.val = j.val; rw [h1]; omega

/-- Block 6. -/
theorem blk6 (n : Fin 2048) (j : Fin 1) : iblk m c 6 t (ix2 n j) = V m c main_v4 (ix2 n j) := by
  unfold iblk
  rw [View.read_apply]
  show V m c main_v4 _ = _
  congr 1
  funext a
  obtain ⟨h0, h1⟩ := (by decide +kernel : ∀ t : Fin grid0.N, win0_6.index t 0 = 0 ∧ win0_6.index t 1 = 0) t
  match a with
  | ⟨0, _⟩ => apply Fin.ext; show win0_6.index t 0 * 2048 + 1 * n.val = n.val; rw [h0]; omega
  | ⟨1, _⟩ => apply Fin.ext; show win0_6.index t 1 * 1 + 1 * j.val = j.val; rw [h1]; omega

/-- Block 7. -/
theorem blk7 (n : Fin 2048) (j : Fin 1) : iblk m c 7 t (ix2 n j) = V m c main_v5 (ix2 n j) := by
  unfold iblk
  rw [View.read_apply]
  show V m c main_v5 _ = _
  congr 1
  funext a
  obtain ⟨h0, h1⟩ := (by decide +kernel : ∀ t : Fin grid0.N, win0_7.index t 0 = 0 ∧ win0_7.index t 1 = 0) t
  match a with
  | ⟨0, _⟩ => apply Fin.ext; show win0_7.index t 0 * 2048 + 1 * n.val = n.val; rw [h0]; omega
  | ⟨1, _⟩ => apply Fin.ext; show win0_7.index t 1 * 1 + 1 * j.val = j.val; rw [h1]; omega

/-- Block 8. -/
theorem blk8 (n : Fin 2) (j : Fin 3072) : iblk m c 8 t (ix2 n j) = V m c main_arg8 (ix2 n j) := by
  unfold iblk
  rw [View.read_apply]
  show V m c main_arg8 _ = _
  congr 1
  funext a
  obtain ⟨h0, h1⟩ := (by decide +kernel : ∀ t : Fin grid0.N, win0_8.index t 0 = 0 ∧ win0_8.index t 1 = 0) t
  match a with
  | ⟨0, _⟩ => apply Fin.ext; show win0_8.index t 0 * 2 + 1 * n.val = n.val; rw [h0]; omega
  | ⟨1, _⟩ => apply Fin.ext; show win0_8.index t 1 * 3072 + 1 * j.val = j.val; rw [h1]; omega

/-- Element `(n, j)` of dy. -/
abbrev dyAt (n : Fin 2048) (j : Fin 3072) : EReal := m ((c : Thread nD τ).loc main_arg3) (ix2 n j)

/-- The scale of row `n` of dy. -/
abbrev dysAt (n : Fin 2048) : EReal := m ((c : Thread nD τ).loc main_arg4) (ix1 n)

/-- Element `(n, j)` of f. -/
abbrev fAt (n : Fin 2048) (j : Fin 3072) : EReal := m ((c : Thread nD τ).loc main_arg2) (ix2 n j)

/-- The arguments of the run hold the numbers of `D`. -/
abbrev StandsAt (D : Data) : Prop := Stands D (m ((c : Thread nD τ).loc main_arg0)) (m ((c : Thread nD τ).loc main_arg1))
  (m ((c : Thread nD τ).loc main_arg5)) (m ((c : Thread nD τ).loc main_arg6)) (m ((c : Thread nD τ).loc main_arg7)) (m ((c : Thread nD τ).loc main_arg8))

variable {D : Data} (hD : StandsAt m c D)
include hD

/-- What the reference's body reads are the numbers of `D`. -/
theorem reads : Reads D (dyAt m c) (dysAt m c) (fAt m c) (iblk m c 0 t) (iblk m c 1 t) (iblk m c 2 t) (iblk m c 3 t) (iblk m c 4 t)
    (iblk m c 5 t) (iblk m c 6 t) (iblk m c 7 t) (iblk m c 8 t) where
  h0 n j := by rw [blk0, V_v0]; exact hD.hx _ _
  h1 n := by rw [blk1, V_v2]; exact hD.hsx _
  h2 n j := by rw [blk2, V_main_arg2]
  h3 n j := by rw [blk3, V_main_arg3]
  h4 n := by rw [blk4, V_v3]
  h5 n j := by rw [blk5, V_v1]; exact hD.hh _ _
  h6 n := by rw [blk6, V_v4]; exact hD.hsh _
  h7 n := by rw [blk7, V_v5]; exact hD.hid _
  h8 s j := by rw [blk8, V_main_arg8]; exact hD.hms _ _
  two := hD.two

/-- Result 1 of the reference. -/
theorem final9 : (dats m 0 c).arrAt 9 cfg0.N = dxRes D (dyAt m c) (dysAt m c) :=
  (dats m 0 c).arrAt_eq_of_cover 9 (dxRes D (dyAt m c) (dysAt m c))
    (fun t _ => by
      have hz : ∀ a, win0_9.index t a = 0 := (by decide +kernel : ∀ t : Fin grid0.N, ∀ a, win0_9.index t a = 0) t
      have hz' : (fun a => win0_9.index t a * main_v6_0.ty.shape.size a) = fun _ => 0 := funext fun a => by rw [hz a, Nat.zero_mul]
      rw [Value.flushed9, out9 (reads m c t hD)]
      exact (Memref.read_access_unit_zero (Elt Ideal) main_v6_0 hz' (fun a => by rw [congrFun hz' a]; simp) (dxRes D (dyAt m c) (dysAt m c))).symm)
    fun i => ⟨first, flush0_9 _, by
      have hz : ∀ a, win0_9.index first a = 0 := (by decide +kernel : ∀ t : Fin grid0.N, ∀ a, win0_9.index t a = 0) _
      show i ∈ ((View.whole main_v6_0).slice (win0_9.rect first)).set
      rw [View.set_slice_whole, Rect.mem_set_unit]
      intro a
      have ha : (i a : ℕ) < main_v6_0.ty.shape.size a := (i a).isLt
      show win0_9.index first a * main_v6_0.ty.shape.size a ≤ (i a : ℕ) ∧ (i a : ℕ) < win0_9.index first a * main_v6_0.ty.shape.size a + main_v6_0.ty.shape.size a
      rw [hz a]; omega⟩

/-- Result 2 of the reference. -/
theorem final10 : (dats m 0 c).arrAt 10 cfg0.N = dmodRes (dmodOf D (dyAt m c) (dysAt m c) (fAt m c)) :=
  (dats m 0 c).arrAt_eq_of_cover 10 (dmodRes (dmodOf D (dyAt m c) (dysAt m c) (fAt m c)))
    (fun t _ => by
      have hz : ∀ a, win0_10.index t a = 0 := (by decide +kernel : ∀ t : Fin grid0.N, ∀ a, win0_10.index t a = 0) t
      have hz' : (fun a => win0_10.index t a * main_v6_1.ty.shape.size a) = fun _ => 0 := funext fun a => by rw [hz a, Nat.zero_mul]
      rw [Value.flushed10, out10 (reads m c t hD)]
      exact (Memref.read_access_unit_zero (Elt Ideal) main_v6_1 hz' (fun a => by rw [congrFun hz' a]; simp) (dmodRes (dmodOf D (dyAt m c) (dysAt m c) (fAt m c)))).symm)
    fun i => ⟨first, flush0_10 _, by
      have hz : ∀ a, win0_10.index first a = 0 := (by decide +kernel : ∀ t : Fin grid0.N, ∀ a, win0_10.index t a = 0) _
      show i ∈ ((View.whole main_v6_1).slice (win0_10.rect first)).set
      rw [View.set_slice_whole, Rect.mem_set_unit]
      intro a
      have ha : (i a : ℕ) < main_v6_1.ty.shape.size a := (i a).isLt
      show win0_10.index first a * main_v6_1.ty.shape.size a ≤ (i a : ℕ) ∧ (i a : ℕ) < win0_10.index first a * main_v6_1.ty.shape.size a + main_v6_1.ty.shape.size a
      rw [hz a]; omega⟩

/-- Result 3 of the reference. -/
theorem final11 : (dats m 0 c).arrAt 11 cfg0.N = dblkRes (dblkOf D (dyAt m c) (dysAt m c) (fAt m c)) :=
  (dats m 0 c).arrAt_eq_of_cover 11 (dblkRes (dblkOf D (dyAt m c) (dysAt m c) (fAt m c)))
    (fun t _ => by
      have hz : ∀ a, win0_11.index t a = 0 := (by decide +kernel : ∀ t : Fin grid0.N, ∀ a, win0_11.index t a = 0) t
      have hz' : (fun a => win0_11.index t a * main_v6_2.ty.shape.size a) = fun _ => 0 := funext fun a => by rw [hz a, Nat.zero_mul]
      rw [Value.flushed11, out11 (reads m c t hD)]
      exact (Memref.read_access_unit_zero (Elt Ideal) main_v6_2 hz' (fun a => by rw [congrFun hz' a]; simp) (dblkRes (dblkOf D (dyAt m c) (dysAt m c) (fAt m c)))).symm)
    fun i => ⟨first, flush0_11 _, by
      have hz : ∀ a, win0_11.index first a = 0 := (by decide +kernel : ∀ t : Fin grid0.N, ∀ a, win0_11.index t a = 0) _
      show i ∈ ((View.whole main_v6_2).slice (win0_11.rect first)).set
      rw [View.set_slice_whole, Rect.mem_set_unit]
      intro a
      have ha : (i a : ℕ) < main_v6_2.ty.shape.size a := (i a).isLt
      show win0_11.index first a * main_v6_2.ty.shape.size a ≤ (i a : ℕ) ∧ (i a : ℕ) < win0_11.index first a * main_v6_2.ty.shape.size a + main_v6_2.ty.shape.size a
      rw [hz a]; omega⟩

end Cert.RefRun
-- ==== Proof.Algebra.lean ====
/- The two runs side by side: the kernel's results are the reference's. -/
module

public import proofs.«01_k».proof.Defs
public import proofs.«01_k».proof.Proof.KRun
public import proofs.«01_k».proof.Proof.RefRun
public import proofs.«01_k».proof.Proof.Gen.Pre_meaningful

@[expose] public section

noncomputable section

namespace Cert.Algebra

open Idealize.ShloMosaic Idealize.ShloMosaic.TcCoe Idealize.SL.Sem Cert.Inputs Cert.Ref

/-- From the same arguments the kernel and the reference end with the same three results. -/
theorem algebraic : Cert.algebraic_KernelIdeal_ReferenceIdeal_pre_meaningful
    (hKernelIdeal := Cert.KernelIdeal.Gen.facts) (hReferenceIdeal := Cert.ReferenceIdeal.Gen.facts)
    (hPre_meaningful := Cert.Pre_meaningful.Gen.facts) := by
  intro m g m' g' hpre hagree
  have hex : ∀ c, ∃ D, Blocks.StandsAt m c D := fun c =>
    exists_data _ _ _ _ _ _ _ _ _ (hpre c)
  choose D hD using hex
  have hD' : ∀ c, RefRun.StandsAt m' c (D c) := fun c => by
    obtain ⟨e0, e1, e2, e3, e4, e5, e6, e7, e8⟩ := hagree c
    show Stands (D c) _ _ _ _ _ _
    rw [e0, e1, e5, e6, e7, e8]
    exact hD c
  have hdy : ∀ c, RefRun.dyAt m' c = Blocks.dyAt m c := fun c => by
    funext n j; exact congrFun (hagree c).2.2.2.1 (ix2 n j)
  have hdys : ∀ c, RefRun.dysAt m' c = Blocks.dysAt m c := fun c => by
    funext n; exact congrFun (hagree c).2.2.2.2.1 (ix1 n)
  have hf : ∀ c, RefRun.fAt m' c = Blocks.fAt m c := fun c => by
    funext n j; exact congrFun (hagree c).2.2.1 (ix2 n j)
  refine ⟨fun c => dxRes (D c) (Blocks.dyAt m c) (Blocks.dysAt m c),
    fun c => dmodRes (dmodOf (D c) (Blocks.dyAt m c) (Blocks.dysAt m c) (Blocks.fAt m c)),
    fun c => dblkRes (dblkOf (D c) (Blocks.dyAt m c) (Blocks.dysAt m c) (Blocks.fAt m c)), ?_, ?_⟩
  · refine (θ_run Cert.KernelIdeal.defs _ _).mono (fun r h c => ?_) (Cert.KernelIdeal.Value.run m g)
    obtain ⟨h0, h1, h2, hk⟩ := h c
    exact ⟨h0.trans (KRun.G9_eq m c (hD c)), h1.trans (KRun.G10_eq m c (hD c)), h2.trans (KRun.G11_eq m c (hD c)), hk⟩
  · refine (θ_run Cert.ReferenceIdeal.defs _ _).mono (fun r h c => ?_) (Cert.ReferenceIdeal.Value.run_blocks m' g')
    obtain ⟨h0, h1, h2, hk⟩ := h c
    refine ⟨h0.trans ?_, h1.trans ?_, h2.trans ?_, hk⟩
    · rw [RefRun.final9 m' c (hD' c), hdy, hdys]
    · rw [RefRun.final10 m' c (hD' c), hdy, hdys, hf]
    · rw [RefRun.final11 m' c (hD' c), hdy, hdys, hf]

end Cert.Algebra
-- ==== Proof.lean ====
/- The certificate's theorem: the frames of the three programs, the one constant the idealization names, and that the
   idealized kernel and the idealized reference end with the same three results (Proof/Algebra.lean). -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.Pre_meaningful
public import proofs.«01_k».proof.Proof.Gen.KernelIdeal.Value
public import proofs.«01_k».proof.Proof.Gen.ReferenceIdeal.Value
public import proofs.«01_k».proof.Proof.Algebra
public import Idealize.ShloMosaic.Adequacy
public import Idealize.ShloMosaic.Init

@[expose] public section

noncomputable section

namespace Cert.Proof

open Idealize.ShloMosaic Idealize.SL.Sem Cert.Kernel

/-- The idealization named one constant, `inv_d`, at the rational it rounds. -/
theorem preserves : Cert.preserves_Kernel_KernelIdeal :=
  IdealRules.named_const.statement Cert.KernelIdeal.κ "inv_d" .f32 0x39AAAAAB#32 ((1 / 3072 : ℝ) : EReal) rfl

/-- Every claim of the certificate. -/
theorem claim : Cert.Claim := ⟨Cert.Kernel.Gen.facts, Cert.KernelIdeal.Gen.facts, Cert.ReferenceIdeal.Gen.facts, Cert.Pre_meaningful.Gen.facts,
  fun m ρ _ => Cert.Kernel.Gen.frame m ρ, fun m ρ _ => Cert.KernelIdeal.Gen.frame m ρ, fun m ρ _ => Cert.KernelIdeal.Gen.frame m ρ,
  fun m ρ _ => Cert.ReferenceIdeal.Gen.frame m ρ, fun m ρ _ => Cert.ReferenceIdeal.Gen.frame m ρ, preserves, Cert.Algebra.algebraic⟩

end Cert.Proof

end
